-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x512 : S_.BroadcastsInDim S2x512x512 (![] : Fin 0 → Fin S2x512x512.rank)

variable [Facts]

def fn {F : FTy → Type} [FloatOps F] (main_arg0 : FVec F S2x512x768 .f32) (main_arg1 : FVec F S768x512 .f32) (main_arg2 : FVec F S2x512x512 .f32) (main_arg3 : FVec F S2x512x512 .f32) (main_arg4 : FVec F S512x768 .f32) : IVec S2x512x768 1 × IVec S768x512 1 × IVec S2x512x512 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x512 .f32 := Host.absf main_arg2
  let main_cst_1 : FVec F S_ .f32 := constant S_ .f32 0x7F800000#32
  let main_v7 : FVec F S2x512x512 .f32 := broadcastInDim S2x512x512 ![] bcast_S_S2x512x512 main_cst_1
  let main_v8 : IVec S2x512x512 1 := cmpf .olt main_v6 main_v7
  (main_v2, main_v5, main_v8)
-- ==== Pre_finite_ReferenceIdeal.lean ====
abbrev S2x512x768 : Shape := ⟨3, ![2, 512, 768]⟩
abbrev S768x512 : Shape := ⟨2, ![768, 512]⟩
abbrev S2x2048x512 : Shape := ⟨3, ![2, 2048, 512]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x2048x512 : S_.BroadcastsInDim S2x2048x512 (![] : Fin 0 → Fin S2x2048x512.rank)

variable [Facts]

def fn {F : FTy → Type} [FloatOps F] (main_arg0 : FVec F S2x512x768 .f32) (main_arg1 : FVec F S768x512 .f32) (main_arg2 : FVec F S2x2048x512 .f32) (main_arg3 : FVec F S2x2048x512 .f32) (main_arg4 : FVec F S512x768 .f32) : IVec S2x512x768 1 × IVec S768x512 1 × IVec S2x2048x512 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S512x16 : Shape := ⟨2, ![512, 16]⟩
abbrev S3x2x512x512 : Shape := ⟨4, ![3, 2, 512, 512]⟩
abbrev S3x512x16 : Shape := ⟨3, ![3, 512, 16]⟩
abbrev S3x2 : Shape := ⟨2, ![3, 2]⟩
abbrev S3 : Shape := ⟨1, ![3]⟩
abbrev S_ : Shape := ⟨0, ![]⟩
abbrev S1x512x768 : Shape := ⟨3, ![1, 512, 768]⟩
abbrev S512x512 : Shape := ⟨2, ![512, 512]⟩
abbrev S1x512x64 : Shape := ⟨3, ![1, 512, 64]⟩
abbrev S512x64 : Shape := ⟨2, ![512, 64]⟩
abbrev S64x64 : Shape := ⟨2, ![64, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1x64x64 : Shape := ⟨3, ![1, 64, 64]⟩
abbrev S64x1 : Shape := ⟨2, ![64, 1]⟩
abbrev S1x1 : Shape := ⟨2, ![1, 1]⟩
abbrev S1x1x512x512 : Shape := ⟨4, ![1, 1, 512, 512]⟩
abbrev S1x512x512 : Shape := ⟨3, ![1, 512, 512]⟩
abbrev S1 : Shape := ⟨1, ![1]⟩
abbrev S1x512x16 : Shape := ⟨3, ![1, 512, 16]⟩
abbrev S1x1x512x64 : Shape := ⟨4, ![1, 1, 512, 64]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x512, .f32⟩
  | .hbm, ⟨3, _⟩ => ⟨S2x512x512, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S2x512x512, .f32⟩
  | .local _ .vmem, ⟨3, _⟩ => ⟨S2x512x512, .f32⟩
  | .local _ .vmem, ⟨4, _⟩ => ⟨S512x768, .f32⟩
  | .local _ .vmem, ⟨5, _⟩ => ⟨S2x512x768, .f32⟩
  | .local _ .vmem, ⟨6, _⟩ => ⟨S2x512x512, .f32⟩
  | .local _ .vmem, ⟨7, _⟩ => ⟨S512x16, .f32⟩
  | .local _ .vmem, ⟨8, _⟩ => ⟨S2x512x512, .bf16⟩
  | .local _ .vmem, ⟨9, _⟩ => ⟨S3x2x512x512, .bf16⟩
  | .local _ .vmem, ⟨10, _⟩ => ⟨S3x512x16, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_701 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_691 : BitVec 32 := 1#32
  let v1456 : BitVec 32 := Scalar.addi v2 c1_i32_691
  let c4_i32_692 : BitVec 32 := 4#32
  let v1457 : BitVec 32 := Scalar.remsi v1456 c4_i32_692
  let c1_i32_700 : BitVec 32 := 1#32
  let v1458 : BitVec 32 := Scalar.muli v1457 c1_i32_700
  let v1459 : BitVec 32 := Scalar.addi c0_i32_701 v1458
  v1459.toNat
def k0_dev5 (d0 : Dev nD) : Nat :=
  let c0_i32_716 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_706 : BitVec 32 := 2#32
  let v1468 : BitVec 32 := Scalar.addi v2 c2_i32_706
  let c4_i32_707 : BitVec 32 := 4#32
  let v1469 : BitVec 32 := Scalar.remsi v1468 c4_i32_707
  let c1_i32_715 : BitVec 32 := 1#32
  let v1470 : BitVec 32 := Scalar.muli v1469 c1_i32_715
  let v1471 : BitVec 32 := Scalar.addi c0_i32_716 v1470
  v1471.toNat
def k0_dev6 (d0 : Dev nD) : Nat :=
  let c0_i32_731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_721 : BitVec 32 := 3#32
  let v1480 : BitVec 32 := Scalar.addi v2 c3_i32_721
  let c4_i32_722 : BitVec 32 := 4#32
  let v1481 : BitVec 32 := Scalar.remsi v1480 c4_i32_722
  let c1_i32_730 : BitVec 32 := 1#32
  let v1482 : BitVec 32 := Scalar.muli v1481 c1_i32_730
  let v1483 : BitVec 32 := Scalar.addi c0_i32_731 v1482
  v1483.toNat
def k0_dev7 (d0 : Dev nD) : Nat :=
  let c0_i32_1430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1420 : BitVec 32 := 1#32
  let v2929 : BitVec 32 := Scalar.addi v2 c1_i32_1420
  let c4_i32_1421 : BitVec 32 := 4#32
  let v2930 : BitVec 32 := Scalar.remsi v2929 c4_i32_1421
  let c1_i32_1429 : BitVec 32 := 1#32
  let v2931 : BitVec 32 := Scalar.muli v2930 c1_i32_1429
  let v2932 : BitVec 32 := Scalar.addi c0_i32_1430 v2931
  v2932.toNat
def k0_dev8 (d0 : Dev nD) : Nat :=
  let c0_i32_1445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1435 : BitVec 32 := 2#32
  let v2941 : BitVec 32 := Scalar.addi v2 c2_i32_1435
  let c4_i32_1436 : BitVec 32 := 4#32
  let v2942 : BitVec 32 := Scalar.remsi v2941 c4_i32_1436
  let c1_i32_1444 : BitVec 32 := 1#32
  let v2943 : BitVec 32 := Scalar.muli v2942 c1_i32_1444
  let v2944 : BitVec 32 := Scalar.addi c0_i32_1445 v2943
  v2944.toNat
def k0_dev9 (d0 : Dev nD) : Nat :=
  let c0_i32_1460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1450 : BitVec 32 := 3#32
  let v2953 : BitVec 32 := Scalar.addi v2 c3_i32_1450
  let c4_i32_1451 : BitVec 32 := 4#32
  let v2954 : BitVec 32 := Scalar.remsi v2953 c4_i32_1451
  let c1_i32_1459 : BitVec 32 := 1#32
  let v2955 : BitVec 32 := Scalar.muli v2954 c1_i32_1459
  let v2956 : BitVec 32 := Scalar.addi c0_i32_1460 v2955
  v2956.toNat
def k0_dev10 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1465 : BitVec 32 := 1#32
  let v2965 : BitVec 32 := Scalar.addi v2 c1_i32_1465
  let c4_i32_1466 : BitVec 32 := 4#32
  let v2966 : BitVec 32 := Scalar.remsi v2965 c4_i32_1466
  let c1_i32_1470 : BitVec 32 := 1#32
  let v2967 : BitVec 32 := Scalar.muli v2966 c1_i32_1470
  let v2968 : BitVec 32 := Scalar.addi c0_i32_1471 v2967
  v2968.toNat
def k0_dev11 (d0 : Dev nD) : Nat :=
  let c0_i32_1480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1474 : BitVec 32 := 2#32
  let v2975 : BitVec 32 := Scalar.addi v2 c2_i32_1474
  let c4_i32_1475 : BitVec 32 := 4#32
  let v2976 : BitVec 32 := Scalar.remsi v2975 c4_i32_1475
  let c1_i32_1479 : BitVec 32 := 1#32
  let v2977 : BitVec 32 := Scalar.muli v2976 c1_i32_1479
  let v2978 : BitVec 32 := Scalar.addi c0_i32_1480 v2977
  v2978.toNat
def k0_dev12 (d0 : Dev nD) : Nat :=
  let c0_i32_1489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1483 : BitVec 32 := 3#32
  let v2985 : BitVec 32 := Scalar.addi v2 c3_i32_1483
  let c4_i32_1484 : BitVec 32 := 4#32
  let v2986 : BitVec 32 := Scalar.remsi v2985 c4_i32_1484
  let c1_i32_1488 : BitVec 32 := 1#32
  let v2987 : BitVec 32 := Scalar.muli v2986 c1_i32_1488
  let v2988 : BitVec 32 := Scalar.addi c0_i32_1489 v2987
  v2988.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x512 : Shape := ⟨2, ![768, 512]⟩
abbrev S2x2048x512 : Shape := ⟨3, ![2, 2048, 512]⟩
abbrev S512x768 : Shape := ⟨2, ![512, 768]⟩
abbrev S2x2048x8x64 : Shape := ⟨4, ![2, 2048, 8, 64]⟩
abbrev S2x512x512 : Shape := ⟨3, ![2, 512, 512]⟩
abbrev S2x512x8x64 : Shape := ⟨4, ![2, 512, 8, 64]⟩
abbrev S512 : Shape := ⟨1, ![512]⟩
abbrev S_ : Shape := ⟨0, ![]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S2x8x512x2048 : Shape := ⟨4, ![2, 8, 512, 2048]⟩
abbrev S1x1x512x2048 : Shape := ⟨4, ![1, 1, 512, 2048]⟩
abbrev S2x8x512 : Shape := ⟨3, ![2, 8, 512]⟩
abbrev S2x8x512x1 : Shape := ⟨4, ![2, 8, 512, 1]⟩
abbrev S1x1x512x1 : Shape := ⟨4, ![1, 1, 512, 1]⟩
abbrev S2x8x64x512 : Shape := ⟨4, ![2, 8, 64, 512]⟩

abbrev nBuf : Space → Nat
  | .hbm => 139
  | .vmem => 0
  | .smem => 0
  | _ => 0

abbrev hbmTy0_0 (i : Nat) : BufTy := match i % 128 with
  | 0 => ⟨S2x512x768, .f32⟩
  | 1 => ⟨S768x512, .f32⟩
  | 2 => ⟨S2x2048x512, .f32⟩
  | 3 => ⟨S2x2048x512, .f32⟩
  | 4 => ⟨S512x768, .f32⟩
  | 5 => ⟨S2x2048x8x64, .f32⟩
  | 6 => ⟨S2x2048x8x64, .f32⟩
  | 7 => ⟨S2x512x512, .f32⟩
  | 8 => ⟨S2x512x8x64, .f32⟩
  | 9 => ⟨S512, .i32⟩
  | 10 => ⟨S_, .i32⟩
  | 11 => ⟨S_, .i32⟩
  | 12 => ⟨S512, .i32⟩
  | 13 => ⟨S512, .i32⟩
  | 14 => ⟨S512, .i32⟩
  | 15 => ⟨S_, .i32⟩
  | 16 => ⟨S512, .i32⟩
  | 17 => ⟨S512, .i1⟩
  | 18 => ⟨S512, .i32⟩
  | 19 => ⟨S512, .i32⟩
  | 20 => ⟨S_, .i32⟩
  | 21 => ⟨S512, .i32⟩
  | 22 => ⟨S512, .i1⟩
  | 23 => ⟨S512, .i1⟩
  | 24 => ⟨S_, .i32⟩
  | 25 => ⟨S512, .i32⟩
  | 26 => ⟨S512, .i32⟩
  | 27 => ⟨S512, .i32⟩
  | 28 => ⟨S512x1, .i32⟩
  | 29 => ⟨S2048, .i32⟩
  | 30 => ⟨S_, .i32⟩
  | 31 => ⟨S_, .i32⟩
  | 32 => ⟨S2048, .i32⟩
  | 33 => ⟨S2048, .i32⟩
  | 34 => ⟨S2048, .i32⟩
  | 35 => ⟨S_, .i32⟩
  | 36 => ⟨S2048, .i32⟩
  | 37 => ⟨S2048, .i1⟩
  | 38 => ⟨S2048, .i32⟩
  | 39 => ⟨S2048, .i32⟩
  | 40 => ⟨S_, .i32⟩
  | 41 => ⟨S2048, .i32⟩
  | 42 => ⟨S2048, .i1⟩
  | 43 => ⟨S2048, .i1⟩
  | 44 => ⟨S_, .i32⟩
  | 45 => ⟨S2048, .i32⟩
  | 46 => ⟨S2048, .i32⟩
  | 47 => ⟨S2048, .i32⟩
  | 48 => ⟨S1x2048, .i32⟩
  | 49 => ⟨S512x2048, .i32⟩
  | 50 => ⟨S512x2048, .i32⟩
  | 51 => ⟨S512x2048, .i1⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S1x2048, .i32⟩
  | 59 => ⟨S1x2048, .i32⟩
  | 60 => ⟨S_, .i32⟩
  | 61 => ⟨S1x2048, .i32⟩
  | 62 => ⟨S1x2048, .i1⟩
  | 63 => ⟨S_, .i32⟩
  | 64 => ⟨S1x2048, .i32⟩
  | 65 => ⟨S1x2048, .i1⟩
  | 66 => ⟨S_, .i32⟩
  | 67 => ⟨S_, .i1⟩
  | 68 => ⟨S1x2048, .i1⟩
  | 69 => ⟨S1x2048, .i1⟩
  | 70 => ⟨S1x2048, .i1⟩
  | 71 => ⟨S1x2048, .i32⟩
  | 72 => ⟨S1x2048, .i32⟩
  | 73 => ⟨S1x2048, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S512x1, .i32⟩
  | 81 => ⟨S512x1, .i32⟩
  | 82 => ⟨S_, .i32⟩
  | 83 => ⟨S512x1, .i32⟩
  | 84 => ⟨S512x1, .i1⟩
  | 85 => ⟨S_, .i32⟩
  | 86 => ⟨S512x1, .i32⟩
  | 87 => ⟨S512x1, .i1⟩
  | 88 => ⟨S_, .i32⟩
  | 89 => ⟨S_, .i1⟩
  | 90 => ⟨S512x1, .i1⟩
  | 91 => ⟨S512x1, .i1⟩
  | 92 => ⟨S512x1, .i1⟩
  | 93 => ⟨S512x1, .i32⟩
  | 94 => ⟨S512x1, .i32⟩
  | 95 => ⟨S512x1, .i32⟩
  | 96 => ⟨S512x2048, .i32⟩
  | 97 => ⟨S512x2048, .i32⟩
  | 98 => ⟨S512x2048, .i1⟩
  | 99 => ⟨S512x2048, .i1⟩
  | 100 => ⟨S2x8x512x2048, .f32⟩
  | 101 => ⟨S_, .f32⟩
  | 102 => ⟨S2x8x512x2048, .f32⟩
  | 103 => ⟨S2x8x512x2048, .f32⟩
  | 104 => ⟨S1x1x512x2048, .i1⟩
  | 105 => ⟨S_, .f32⟩
  | 106 => ⟨S_, .f32⟩
  | 107 => ⟨S2x8x512x2048, .i1⟩
  | 108 => ⟨S2x8x512x2048, .f32⟩
  | 109 => ⟨S2x8x512x2048, .f32⟩
  | 110 => ⟨S_, .f32⟩
  | 111 => ⟨S2x8x512, .f32⟩
  | 112 => ⟨S2x8x512x1, .f32⟩
  | 113 => ⟨S2x8x512x2048, .f32⟩
  | 114 => ⟨S2x8x512x2048, .f32⟩
  | 115 => ⟨S2x8x512x2048, .f32⟩
  | 116 => ⟨S_, .i1⟩
  | 117 => ⟨S512, .i1⟩
  | 118 => ⟨S1x1x512x1, .i1⟩
  | 119 => ⟨S_, .f32⟩
  | 120 => ⟨S2x8x512, .f32⟩
  | 121 => ⟨S2x8x512x1, .f32⟩
  | 122 => ⟨S_, .f32⟩
  | 123 => ⟨S_, .f32⟩
  | 124 => ⟨S2x8x512x1, .i1⟩
  | 125 => ⟨S2x8x512x1, .f32⟩
  | 126 => ⟨S2x8x512x1, .f32⟩
  | 127 => ⟨S2x8x512x2048, .f32⟩
  | _ => ⟨S2x512x768, .f32⟩

abbrev hbmTy0_1 (i : Nat) : BufTy := match i % 128 with
  | 0 => ⟨S2x8x512x2048, .f32⟩
  | 1 => ⟨S1x1x512x1, .i1⟩
  | 2 => ⟨S_, .f32⟩
  | 3 => ⟨S_, .f32⟩
  | 4 => ⟨S2x8x512x2048, .i1⟩
  | 5 => ⟨S2x8x512x2048, .f32⟩
  | 6 => ⟨S2x8x512x2048, .f32⟩
  | 7 => ⟨S2x8x64x512, .f32⟩
  | 8 => ⟨S2x512x8x64, .f32⟩
  | 9 => ⟨S2x512x512, .f32⟩
  | 10 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_call2_v0 : Ref sig .tc := ⟨.hbm, 53, rfl⟩
abbrev main_call2_c : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_v5 : Ref sig .tc := ⟨.hbm, 61, rfl⟩
abbrev main_call2_v6 : Ref sig .tc := ⟨.hbm, 62, rfl⟩
abbrev main_call2_c_2 : Ref sig .tc := ⟨.hbm, 63, rfl⟩
abbrev main_call2_v7 : Ref sig .tc := ⟨.hbm, 64, rfl⟩
abbrev main_call2_v8 : Ref sig .tc := ⟨.hbm, 65, rfl⟩
abbrev main_call2_c_3 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_v13 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_cst_3 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v23 : Ref sig .tc := ⟨.hbm, 109, rfl⟩
abbrev main_cst_4 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_c_5 : Ref sig .tc := ⟨.hbm, 116, rfl⟩
abbrev main_v29 : Ref sig .tc := ⟨.hbm, 117, rfl⟩
abbrev main_v30 : Ref sig .tc := ⟨.hbm, 118, rfl⟩
abbrev main_cst_6 : Ref sig .tc := ⟨.hbm, 119, rfl⟩
abbrev main_v31 : Ref sig .tc := ⟨.hbm, 120, rfl⟩
abbrev main_v32 : Ref sig .tc := ⟨.hbm, 121, rfl⟩
abbrev main_cst_7 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_cst_8 : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Setup.lean ====
/-
# The communication protocol of the kernel

Four devices. Device `c` computes its partial attention numerators (`sndM`, one slab per batch) and denominators
(`denM`), and sends them to the three other devices; transfer `t` is either `inl (j, b)`, slab `b` to device
`nx j c = c + j + 1`, or `inr j`, the denominators to the same device. It lands in the receiver's slot
(`slN j b` of `cnM`, `slD j` of `cdM`).

* The barrier cell of `c` gets one unit from each of the other three devices. The unit of device `pv d c` hands `c`
  the slots of that device that `c` writes.
* The send cell `sD t` of `c` gets the transfer's credit when it has left; what comes back is the share of the source
  that was lent.
* The receive cell `rD t` of `c` gets the credit of the transfer `t` that device `pv (jOf t) c` sent; what comes with it
  is the slot holding that device's slab or denominators.

Each cell has one round. A device waits on its barrier cell while it owes the nine receive cells of its peers (levels:
barrier 1, receive 2), and on its send and receive cells when it owes nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Ring.Trips
public import Idealize.ShloMosaic.Lib.ValueLayout

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The devices -/

/-- The device `j + 1` further on. -/
def nx (j : Fin 3) (c : Dev nD) : Dev nD := ⟨(c.val + (j.val + 1)) % 4, Nat.mod_lt _ (by decide)⟩
/-- The device `j + 1` before. -/
def pv (j : Fin 3) (c : Dev nD) : Dev nD := ⟨(c.val + (3 - j.val)) % 4, Nat.mod_lt _ (by decide)⟩

theorem pv_nx (j : Fin 3) (c : Dev nD) : pv j (nx j c) = c := by revert j c; decide
theorem nx_pv (j : Fin 3) (c : Dev nD) : nx j (pv j c) = c := by revert j c; decide
/-- `j + 1` before is `4 − (j + 1)` further on. -/
theorem pv_eq_nx (j : Fin 3) (c : Dev nD) : pv j c = nx j.rev c := by revert j c; decide

def shift (j : Fin 3) : Dev nD ≃ Dev nD := ⟨nx j, pv j, pv_nx j, nx_pv j⟩

theorem dev1_eq (c : Dev nD) : (⟨k0_dev1 c, k0_dev1_lt c⟩ : Dev nD) = nx 0 c := Fin.ext (k0_dev1_eq c)
theorem dev2_eq (c : Dev nD) : (⟨k0_dev2 c, k0_dev2_lt c⟩ : Dev nD) = nx 1 c := Fin.ext (k0_dev2_eq c)
theorem dev3_eq (c : Dev nD) : (⟨k0_dev3 c, k0_dev3_lt c⟩ : Dev nD) = nx 2 c := Fin.ext (k0_dev3_eq c)
theorem dev4_eq (c : Dev nD) : (⟨k0_dev4 c, k0_dev4_lt c⟩ : Dev nD) = nx 0 c := Fin.ext (k0_dev4_eq c)
theorem dev5_eq (c : Dev nD) : (⟨k0_dev5 c, k0_dev5_lt c⟩ : Dev nD) = nx 1 c := Fin.ext (k0_dev5_eq c)
theorem dev6_eq (c : Dev nD) : (⟨k0_dev6 c, k0_dev6_lt c⟩ : Dev nD) = nx 2 c := Fin.ext (k0_dev6_eq c)
theorem dev7_eq (c : Dev nD) : (⟨k0_dev7 c, k0_dev7_lt c⟩ : Dev nD) = nx 0 c := Fin.ext (k0_dev7_eq c)
theorem dev8_eq (c : Dev nD) : (⟨k0_dev8 c, k0_dev8_lt c⟩ : Dev nD) = nx 1 c := Fin.ext (k0_dev8_eq c)
theorem dev9_eq (c : Dev nD) : (⟨k0_dev9 c, k0_dev9_lt c⟩ : Dev nD) = nx 2 c := Fin.ext (k0_dev9_eq c)
theorem dev10_eq (c : Dev nD) : (⟨k0_dev10 c, k0_dev10_lt c⟩ : Dev nD) = nx 0 c := Fin.ext (k0_dev10_eq c)
theorem dev11_eq (c : Dev nD) : (⟨k0_dev11 c, k0_dev11_lt c⟩ : Dev nD) = nx 1 c := Fin.ext (k0_dev11_eq c)
theorem dev12_eq (c : Dev nD) : (⟨k0_dev12 c, k0_dev12_lt c⟩ : Dev nD) = nx 2 c := Fin.ext (k0_dev12_eq c)

/-! ## The buffers, their slots, and the cells -/

abbrev parM : Memref sig .tc .vmem S2x512x512 .f32 := Memref.whole cc0_scratch0
abbrev denM : Memref sig .tc .vmem S512x16 .f32 := Memref.whole cc0_scratch1
abbrev sndM : Memref sig .tc .vmem S2x512x512 .bf16 := Memref.whole cc0_scratch2
abbrev cnM : Memref sig .tc .vmem S3x2x512x512 .bf16 := Memref.whole cc0_scratch3
abbrev cdM : Memref sig .tc .vmem S3x512x16 .f32 := Memref.whole cc0_scratch4

theorem inbS (b : Fin 2) : ∀ a, (![b.val, 0, 0] : Fin 3 → ℕ) a + S1x512x512.size a ≤ S2x512x512.size a := by revert b; decide
theorem inbN (j : Fin 3) (b : Fin 2) : ∀ a, (![j.val, b.val, 0, 0] : Fin 4 → ℕ) a + S1x1x512x512.size a ≤ S3x2x512x512.size a := by revert j b; decide
theorem inbD (j : Fin 3) : ∀ a, (![j.val, 0, 0] : Fin 3 → ℕ) a + S1x512x16.size a ≤ S3x512x16.size a := by revert j; decide

/-- Slab `b` of the send buffer, -/
abbrev slS (b : Fin 2) : Memref sig .tc .vmem S512x512 .bf16 :=
  (sndM.slice (Rect.unit (s := S2x512x512) ![b.val, 0, 0] S1x512x512.size (inbS b)) (fun _ => rfl)).squeeze S512x512 squeezes_S1x512x512_S512x512
/-- the receive slot of slab `b` from distance `j + 1`, -/
abbrev slN (j : Fin 3) (b : Fin 2) : Memref sig .tc .vmem S512x512 .bf16 :=
  (cnM.slice (Rect.unit (s := S3x2x512x512) ![j.val, b.val, 0, 0] S1x1x512x512.size (inbN j b)) (fun _ => rfl)).squeeze S512x512 squeezes_S1x1x512x512_S512x512
/-- the receive slot of the denominators from distance `j + 1`. -/
abbrev slD (j : Fin 3) : Memref sig .tc .vmem S512x16 .f32 :=
  (cdM.slice (Rect.unit (s := S3x512x16) ![j.val, 0, 0] S1x512x16.size (inbD j)) (fun _ => rfl)).squeeze S512x16 squeezes_S1x512x16_S512x16

/-- The transfers a device makes: slab `b` at distance `j + 1`, or the denominators at distance `j + 1`. -/
abbrev T : Type := (Fin 3 × Fin 2) ⊕ Fin 3
/-- The cells of a device: barrier, send (`false`) and receive (`true`) of a transfer. -/
abbrev CI : Type := Option (Bool × T)

abbrev jOf : T → Fin 3 | .inl (j, _) => j | .inr j => j
abbrev dst (t : T) (c : Dev nD) : Dev nD := nx (jOf t) c
abbrev src (t : T) (c : Dev nD) : Dev nD := pv (jOf t) c

/-- The barrier semaphore of collective 0, the send semaphores and the receive semaphores. -/
abbrev barS : Sem sig := (SemArray.scalar (sig.barrier 0 rfl) : Sems sig S_).sem
def tNat : T → Fin 9 | .inl (j, b) => ⟨2 * j.val + b.val, by omega⟩ | .inr j => ⟨6 + j.val, by omega⟩
def sD (t : T) : DmaSem sig := (⟨6 + (tNat t).val, by have := (tNat t).isLt; omega⟩ : Fin 24)
def rD (t : T) : DmaSem sig := (⟨15 + (tNat t).val, by have := (tNat t).isLt; omega⟩ : Fin 24)

abbrev barCell (c : Dev nD) : GSem nD τ sig := ((c : Thread nD τ), .reg barS)
abbrev sndCell (t : T) (c : Dev nD) : GSem nD τ sig := ((c : Thread nD τ), .dma (sD t))
abbrev rcvCell (t : T) (c : Dev nD) : GSem nD τ sig := ((c : Thread nD τ), .dma (rD t))

def csem : CI → SemLoc sig | none => .reg barS | some (false, t) => .dma (sD t) | some (true, t) => .dma (rD t)
abbrev kcell (ck : Dev nD × CI) : GSem nD τ sig := ((ck.1 : Thread nD τ), csem ck.2)
/-- The kernel's own (scoped) semaphores, as the launch indexes them. -/
def osem (k : Bool × T) : SemLoc sig := csem (some k)

/-- Which cell a semaphore is. -/
def dec : SemLoc sig → Option CI
  | .reg s => if s = barS then some none else none
  | .dma q => (([.inl (0, 0), .inl (0, 1), .inl (1, 0), .inl (1, 1), .inl (2, 0), .inl (2, 1), .inr 0, .inr 1, .inr 2] : List T).find?
      fun t => decide (q = sD t ∨ q = rD t)).map fun t => some (decide (q = rD t), t)

theorem dec_csem (k : CI) : dec (csem k) = some k := by revert k; decide +kernel
theorem csem_injective : Function.Injective csem := fun a b h => by
  have := congrArg dec h; rw [dec_csem, dec_csem] at this; exact Option.some.inj this

/-- A transfer's credit: a slab's or the denominators'. -/
def NN : ℕ := (slN 0 0).view.dmaCredit
def ND : ℕ := (slD 0).view.dmaCredit
theorem NN_pos : 0 < NN := View.dmaCredit_pos _ (by decide)
theorem ND_pos : 0 < ND := View.dmaCredit_pos _ (by decide)
def Nt : T → ℕ | .inl _ => NN | .inr _ => ND
theorem Nt_pos (t : T) : 0 < Nt t := by cases t; exacts [NN_pos, ND_pos]

/-! ## Contents -/

/-- What each device sends: both slabs, and the denominators. -/
structure Sent (F : FTy → Type) where
  num : Dev nD → (S2x512x512.Idx → Elt F .bf16)
  den : Dev nD → (S512x16.Idx → Elt F .f32)

variable (Z : Sent F)

/-- All the received slabs of device `c`, -/
def cnC (c : Dev nD) : S3x2x512x512.Idx → Elt F .bf16 := fun i => Z.num (pv (i 0) c) (ix3 (i 1) (i 2) (i 3))
/-- and its received denominators. -/
def cdC (c : Dev nD) : S3x512x16.Idx → Elt F .f32 := fun i => Z.den (pv (i 0) c) (ix2 (i 1) (i 2))

omit [FloatOps F] in
theorem slN_emb (j : Fin 3) (b : Fin 2) (x : S512x512.Idx) : (slN j b).view.emb x = (ix4 j b (x 0) (x 1) : S3x2x512x512.Idx) := by
  obtain ⟨p, q, rfl⟩ : ∃ p q, x = ix2 p q := ⟨x 0, x 1, eq_ix2 x⟩
  show (Rect.unit (s := S3x2x512x512) ![j.val, b.val, 0, 0] S1x1x512x512.size (inbN j b)).emb (Shape.reshapeEquiv _ (ix2 p q)) = _
  rw [reshapeEquiv_ix2_11ab]
  funext a; apply Fin.ext
  match a with
  | ⟨0, _⟩ => rfl
  | ⟨1, _⟩ => rfl
  | ⟨2, _⟩ => show 0 + 1 * p.val = p.val; omega
  | ⟨3, _⟩ => show 0 + 1 * q.val = q.val; omega

omit [FloatOps F] in
theorem slS_emb (b : Fin 2) (x : S512x512.Idx) : (slS b).view.emb x = (ix3 b (x 0) (x 1) : S2x512x512.Idx) := by
  obtain ⟨p, q, rfl⟩ : ∃ p q, x = ix2 p q := ⟨x 0, x 1, eq_ix2 x⟩
  show (Rect.unit (s := S2x512x512) ![b.val, 0, 0] S1x512x512.size (inbS b)).emb (Shape.reshapeEquiv _ (ix2 p q)) = _
  rw [reshapeEquiv_ix2_1ab]
  funext a; apply Fin.ext
  match a with
  | ⟨0, _⟩ => rfl
  | ⟨1, _⟩ => show 0 + 1 * p.val = p.val; omega
  | ⟨2, _⟩ => show 0 + 1 * q.val = q.val; omega

omit [FloatOps F] in
theorem slD_emb (j : Fin 3) (x : S512x16.Idx) : (slD j).view.emb x = (ix3 j (x 0) (x 1) : S3x512x16.Idx) := by
  obtain ⟨p, q, rfl⟩ : ∃ p q, x = ix2 p q := ⟨x 0, x 1, eq_ix2 x⟩
  show (Rect.unit (s := S3x512x16) ![j.val, 0, 0] S1x512x16.size (inbD j)).emb (Shape.reshapeEquiv _ (ix2 p q)) = _
  rw [reshapeEquiv_ix2_1ab]
  funext a; apply Fin.ext
  match a with
  | ⟨0, _⟩ => rfl
  | ⟨1, _⟩ => show 0 + 1 * p.val = p.val; omega
  | ⟨2, _⟩ => show 0 + 1 * q.val = q.val; omega

/-! ## Points-to -/

/-- Device `c`'s slot of a transfer; its share of the source of a transfer. -/
def ptN (c : Dev nD) (j : Fin 3) (b : Fin 2) (f : S3x2x512x512.Idx → Elt F .bf16) : sProp 𝕄 :=
  (slN j b).view.loc (c : Thread nD τ) ↦[(slN j b).view.set]{fullShare} f
def ptD (c : Dev nD) (j : Fin 3) (f : S3x512x16.Idx → Elt F .f32) : sProp 𝕄 :=
  (slD j).view.loc (c : Thread nD τ) ↦[(slD j).view.set]{fullShare} f
def ptS (c : Dev nD) (j : Fin 3) (b : Fin 2) (f : S2x512x512.Idx → Elt F .bf16) : sProp 𝕄 :=
  (slS b).view.loc (c : Thread nD τ) ↦[(slS b).view.set]{Ring.shares3 fullShare j} f
def ptE (c : Dev nD) (j : Fin 3) (f : S512x16.Idx → Elt F .f32) : sProp 𝕄 :=
  denM.view.loc (c : Thread nD τ) ↦[denM.view.set]{Ring.shares3 fullShare j} f

section Storable
omit [FloatOps F]
instance (c : Dev nD) (j b) (f) : BI.Storable (upEmb : UEmb _ 𝕄) (ptN (F := F) c j b f) := by unfold ptN; infer_instance
instance (c : Dev nD) (j) (f) : BI.Storable (upEmb : UEmb _ 𝕄) (ptD (F := F) c j f) := by unfold ptD; infer_instance
instance (c : Dev nD) (j b) (f) : BI.Storable (upEmb : UEmb _ 𝕄) (ptS (F := F) c j b f) := by unfold ptS; infer_instance
instance (c : Dev nD) (j) (f) : BI.Storable (upEmb : UEmb _ 𝕄) (ptE (F := F) c j f) := by unfold ptE; infer_instance
end Storable

/-! ## The schedule -/

/-- The slots of device `p` that the device at distance `j + 1` before it writes. -/
def slots (p : Dev nD) (j : Fin 3) : sProp 𝕄 := iprop((∃ f, ptN p j 0 f) ∗ (∃ f, ptN p j 1 f) ∗ ∃ f, ptD p j f)
/-- Duty `d` of `c`'s barrier cell: the slots of the payer that `c` writes. -/
def barPay (c : Dev nD) (d : Fin 3) : sProp 𝕄 := slots (pv d c) d.rev
def sndPay (c : Dev nD) : T → sProp 𝕄 | .inl (j, b) => ptS c j b (Z.num c) | .inr j => ptE c j (Z.den c)
def rcvPay (c : Dev nD) : T → sProp 𝕄 | .inl (j, b) => ptN c j b (cnC Z c) | .inr j => ptD c j (cdC Z c)

section Storable
omit [FloatOps F]
instance (c : Dev nD) (d) : BI.Storable (upEmb : UEmb _ 𝕄) (barPay (F := F) c d) := by unfold barPay slots; infer_instance
instance (c : Dev nD) (t) : BI.Storable (upEmb : UEmb _ 𝕄) (sndPay Z c t) := by rcases t with ⟨_, _⟩ | _ <;> unfold sndPay <;> infer_instance
instance (c : Dev nD) (t) : BI.Storable (upEmb : UEmb _ 𝕄) (rcvPay Z c t) := by rcases t with ⟨_, _⟩ | _ <;> unfold rcvPay <;> infer_instance
end Storable

def dutiesOf : Option CI → Finset (Fin 3) | none => ∅ | some none => Finset.univ | some (some _) => {0}
def amountOf : Option CI → ℕ | some (some (_, t)) => Nt t | _ => 1
def payOf (c : Dev nD) (d : Fin 3) : Option CI → sProp 𝕄
  | none => iprop(emp) | some none => barPay c d | some (some (false, t)) => sndPay Z c t | some (some (true, t)) => rcvPay Z c t

def rd : Rounds.Schedule (GSem nD τ sig) (Fin 3) 𝕄 where
  duties g r := if r = 0 ∧ g.1.2 = .tc then dutiesOf (dec g.2) else ∅
  unitless _ := False
  amount g _ _ := amountOf (dec g.2)
  payload g _ d := payOf Z g.1.1 d (dec g.2)
  amount_pos g _ _ _ := by
    rcases h : dec g.2 with _ | _ | ⟨_, t⟩
    · exact Nat.one_pos
    · exact Nat.one_pos
    · exact Nt_pos t

instance rd_payload_storable (g : GSem nD τ sig) (r : ℕ) (d : Fin 3) : BI.Storable (upEmb : UEmb _ 𝕄) ((rd Z).payload g r d) := by
  show BI.Storable upEmb (payOf Z g.1.1 d (dec g.2))
  rcases dec g.2 with _ | _ | ⟨_ | _, t⟩ <;> unfold payOf <;> infer_instance

section Sched
omit [FloatOps F]
variable (c : Dev nD)

theorem duties_later (g : GSem nD τ sig) : ∀ r, 1 ≤ r → (rd Z).duties g r = ∅ := fun r hr => by
  dsimp only [rd]; rw [if_neg fun h => by omega]
theorem duties_k (k : CI) : (rd Z).duties (kcell (c, k)) 0 = dutiesOf (some k) := by
  dsimp only [rd]; rw [if_pos ⟨rfl, rfl⟩, dec_csem]
theorem amount_k (k : CI) (d) : (rd Z).amount (kcell (c, k)) 0 d = amountOf (some k) := by dsimp only [rd]; rw [dec_csem]
theorem payload_k (k : CI) (d) : (rd Z).payload (kcell (c, k)) 0 d = payOf Z c d (some k) := by dsimp only [rd]; rw [dec_csem]

theorem duties_bar : (rd Z).duties (barCell c) 0 = Finset.univ := duties_k Z c none
theorem duties_snd (t : T) : (rd Z).duties (sndCell t c) 0 = {0} := duties_k Z c (some (false, t))
theorem duties_rcv (t : T) : (rd Z).duties (rcvCell t c) 0 = {0} := duties_k Z c (some (true, t))
theorem amount_bar (d) : (rd Z).amount (barCell c) 0 d = 1 := amount_k Z c none d
theorem amount_snd (t : T) (d) : (rd Z).amount (sndCell t c) 0 d = Nt t := amount_k Z c (some (false, t)) d
theorem amount_rcv (t : T) (d) : (rd Z).amount (rcvCell t c) 0 d = Nt t := amount_k Z c (some (true, t)) d
theorem payload_bar (d) : (rd Z).payload (barCell c) 0 d = barPay c d := payload_k Z c none d
theorem payload_snd (t : T) (d) : (rd Z).payload (sndCell t c) 0 d = sndPay Z c t := payload_k Z c (some (false, t)) d
theorem payload_rcv (t : T) (d) : (rd Z).payload (rcvCell t c) 0 d = rcvPay Z c t := payload_k Z c (some (true, t)) d

theorem expect_bar : (rd Z).expect (barCell c) 0 = 3 := by
  unfold Schedule.expect Schedule.amountOf
  rw [duties_bar, Finset.sum_congr rfl fun d _ => amount_bar Z c d, Finset.sum_const, Finset.card_univ, Fintype.card_fin, smul_eq_mul]
theorem expect_snd (t : T) : (rd Z).expect (sndCell t c) 0 = Nt t := by
  unfold Schedule.expect Schedule.amountOf; rw [duties_snd, Finset.sum_singleton, amount_snd]
theorem expect_rcv (t : T) : (rd Z).expect (rcvCell t c) 0 = Nt t := by
  unfold Schedule.expect Schedule.amountOf; rw [duties_rcv, Finset.sum_singleton, amount_rcv]

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((rd Z).duties (barCell c) 0 \ ∅) (fun d => (rd Z).payload (barCell c) 0 d)
    = iprop(slots (nx 2 c) 2 ∗ slots (nx 1 c) 1 ∗ slots (nx 0 c) 0) := by
  rw [Finset.sdiff_empty, duties_bar, bigSep_fin3]
  simp only [payload_bar, barPay, pv_eq_nx]
  rfl
theorem rest_snd (t : T) : bigSep ((rd Z).duties (sndCell t c) 0 \ ∅) (fun d => (rd Z).payload (sndCell t c) 0 d) = sndPay Z c t := by
  rw [Finset.sdiff_empty, duties_snd, bigSep_singleton, payload_snd]
theorem rest_rcv (t : T) : bigSep ((rd Z).duties (rcvCell t c) 0 \ ∅) (fun d => (rd Z).payload (rcvCell t c) 0 d) = rcvPay Z c t := by
  rw [Finset.sdiff_empty, duties_rcv, bigSep_singleton, payload_rcv]

end Sched

/-! ## What each device owes at launch; the levels -/

/-- The transfers in program order. -/
def order : List T := [.inl (0, 0), .inl (1, 0), .inl (2, 0), .inl (0, 1), .inl (1, 1), .inl (2, 1), .inr 0, .inr 1, .inr 2]

/-- What device `c` owes for the transfers still to come. -/
def owe (c : Dev nD) : List T → CellTallies nD τ sig Unit
  | [] => 0
  | t :: l => owe c l + tallyAt (rcvCell t (dst t c)) () (Nt t)

def oweB (c : Dev nD) : List (Fin 3) → CellTallies nD τ sig Unit
  | [] => owe c order
  | d :: l => oweB c l + tallyAt (barCell (nx d c)) () 1

def O₀ (c : Dev nD) : CellTallies nD τ sig Unit := oweB c [0, 1, 2]

def L (g : GSem nD τ sig) : Finset Unit := if g.1.2 = .tc then {()} else ∅
def lvOf : Option CI → ℕ | some none => 1 | some (some (true, _)) => 2 | _ => 0
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {l : List T} {g : GSem nD τ sig} {u : Unit} (h : 0 < owe c l g u) : ∃ t, g = rcvCell t (dst t c) := by
  induction l with
  | nil => exact absurd h (Nat.lt_irrefl 0)
  | cons t l ih =>
    unfold owe at h
    rw [Pi.add_apply, Finsupp.add_apply, tallyAt_apply] at h
    by_cases hg : g = rcvCell t (dst t c)
    · exact ⟨t, hg⟩
    · rw [if_neg (fun h' => hg h'.1), Nat.add_zero] at h; exact ih h

theorem oweB_pos {c : Dev nD} {l : List (Fin 3)} {g : GSem nD τ sig} {u : Unit} (h : 0 < oweB c l g u) :
    (∃ t, g = rcvCell t (dst t c)) ∨ ∃ d, g = barCell (nx d c) := by
  induction l with
  | nil => exact .inl (owe_pos h)
  | cons d l ih =>
    unfold oweB at h
    rw [Pi.add_apply, Finsupp.add_apply, tallyAt_apply] at h
    by_cases hg : g = barCell (nx d c)
    · exact .inr ⟨d, hg⟩
    · rw [if_neg (fun h' => hg h'.1), Nat.add_zero] at h; exact ih h

theorem lv_rcv (t : T) (c : Dev nD) (u) : lv (rcvCell t c) u = 2 := congrArg lvOf (dec_csem (some (true, t)))
theorem lv_bar (c : Dev nD) (u) : lv (barCell c) u = 1 := congrArg lvOf (dec_csem none)

omit [FloatOps F] in
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oweB_pos hg with ⟨t, rfl⟩ | ⟨d, rfl⟩ <;> exact Finset.mem_singleton_self _)
      (fun p hp => by rw [Finset.mem_singleton.mp hp]; dsimp only [lv]; rw [hq]; exact Nat.le_refl 0)
      (fun g u hg => by
        rcases oweB_pos hg with ⟨t, rfl⟩ | ⟨d, rfl⟩
        · rw [lv_rcv]; decide
        · rw [lv_bar]; decide)
  · rw [MayWait_zero]; iintro -; iempintro

omit [FloatOps F] in
/-- At its barrier wait a device owes receive cells only. -/
theorem mayWait_bar (c : Dev nD) : (levAts L lv : sProp 𝕄) ⊢ MayWait (c : Thread nD τ) (.reg barS) () (owe c order) :=
  MayOwe.of_cut (L := L) (lev := lv) 1 (fun p hp => by rw [Finset.mem_singleton.mp hp, L_tc]; exact Finset.mem_singleton_self _)
    (fun g u hg => by obtain ⟨t, rfl⟩ := owe_pos hg; exact Finset.mem_singleton_self _)
    (fun p hp => by rw [Finset.mem_singleton.mp hp]; exact (lv_bar c ()).le)
    (fun g u hg => by obtain ⟨t, rfl⟩ := owe_pos hg; rw [lv_rcv]; decide)

end Cert.KernelIdeal.Run

end
-- ==== Proof.Vals.lean ====
/-
# What one device computes and stores

The values of one device as functions of its five input blocks, over any floats: queries, weights, weighted values and row sums; and that the
stores of all rounds leave the arrays `ofP` and `ofD` of these values.
-/
module

public import proofs.«01_k».proof.Proof.Setup

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The five blocks a device holds at the start: the activations, the query weights, its part of the keys and of the values, and the
    output weights. -/
structure Ins (F : FTy → Type) where
  x : S2x512x768.Idx → Elt F .f32
  wq : S768x512.Idx → Elt F .f32
  k : S2x512x512.Idx → Elt F .f32
  v : S2x512x512.Idx → Elt F .f32
  wo : S512x768.Idx → Elt F .f32

/-- The staging buffers of the five arguments and of the result. -/
abbrev xM : Memref sig .tc .vmem S2x512x768 .f32 := Memref.whole cc0_stg0_0
abbrev wqM : Memref sig .tc .vmem S768x512 .f32 := Memref.whole cc0_stg1_0
abbrev kM : Memref sig .tc .vmem S2x512x512 .f32 := Memref.whole cc0_stg2_0
abbrev vM : Memref sig .tc .vmem S2x512x512 .f32 := Memref.whole cc0_stg3_0
abbrev woM : Memref sig .tc .vmem S512x768 .f32 := Memref.whole cc0_stg4_0
abbrev oM : Memref sig .tc .vmem S2x512x768 .f32 := Memref.whole cc0_stg5_0

variable (I : Ins F)

theorem inX (b : Fin 2) : ∀ a, (![b.val, 0, 0] : Fin 3 → ℕ) a + S1x512x768.size a ≤ S2x512x768.size a := by
  revert b; decide

theorem inKV (b : Fin 2) (h : Fin 8) : ∀ a, (![b.val, 0, 64 * h.val] : Fin 3 → ℕ) a + S1x512x64.size a ≤ S2x512x512.size a := by
  revert b h; decide

theorem inP (b : Fin 2) (h : Fin 8) (r : Fin 4) (s : Fin 2) :
    ∀ a, (![b.val, 64 * (r.val + 4 * s.val), 64 * h.val] : Fin 3 → ℕ) a + S1x64x64.size a ≤ S2x512x512.size a := by
  revert b h r s; decide

theorem inD (b : Fin 2) (h : Fin 8) (r : Fin 4) (s : Fin 2) :
    ∀ a, (![64 * (r.val + 4 * s.val), 8 * b.val + h.val] : Fin 2 → ℕ) a + S64x1.size a ≤ S512x16.size a := by
  revert b h r s; decide

theorem slQ (h : Fin 8) : S512x512.Slices ![0, 64 * h.val] S512x64 := by
  revert h; decide

theorem slC (r : Fin 4) (s : Fin 2) : S512x64.Slices ![64 * (r.val + 4 * s.val), 0] S64x64 := by
  revert r s; decide

theorem slN' (s : Fin 2) : S128x64.Slices ![64 * s.val, 0] S64x64 := by
  revert s; decide

theorem slD' (s : Fin 2) : S128x1.Slices ![64 * s.val, 0] S64x1 := by
  revert s; decide

/-- The projected queries of batch `b`, rounded. -/
def qB (b : Fin 2) : FVec F S512x512 .bf16 :=
  truncf .bf16 (matmul dot_S512x768_S768x512_S512x512_1_0_0_1_n_n none
    (truncf .bf16 (shapeCast S512x768 (xM.view.readAt (Elt F) (Rect.unit (s := S2x512x768) ![b.val, 0, 0] S1x512x768.size (inX b)).toLoadRect I.x)
      shapeCasts_S1x512x768_S512x768) bitsLt_bf16_f32)
    (truncf .bf16 (shapeCast S768x512 (wqM.view.readAt (Elt F) (Rect.unit (s := S768x512) ![0, 0] S768x512.size inb_S768x512_S768x512_0_0).toLoadRect I.wq)
      shapeCasts_S768x512_S768x512) bitsLt_bf16_f32)
    (constant S512x512 .f32 0x00000000#32)) bitsLt_bf16_f32

/-- One head's columns of one batch's queries, keys, values. -/
def qH (b : Fin 2) (h : Fin 8) : FVec F S512x64 .bf16 :=
  extractStridedSlice S512x64 ![0, 64 * h.val] (qB I b) (slQ h)

def kH (b : Fin 2) (h : Fin 8) : FVec F S512x64 .bf16 :=
  truncf .bf16 (shapeCast S512x64 (kM.view.readAt (Elt F) (Rect.unit (s := S2x512x512) ![b.val, 0, 64 * h.val] S1x512x64.size (inKV b h)).toLoadRect I.k)
    shapeCasts_S1x512x64_S512x64) bitsLt_bf16_f32

def vH (b : Fin 2) (h : Fin 8) : FVec F S512x64 .bf16 :=
  truncf .bf16 (shapeCast S512x64 (vM.view.readAt (Elt F) (Rect.unit (s := S2x512x512) ![b.val, 0, 64 * h.val] S1x512x64.size (inKV b h)).toLoadRect I.v)
    shapeCasts_S1x512x64_S512x64) bitsLt_bf16_f32

/-- The two row blocks of residue `r`, one under the other. -/
def two (z : FVec F S512x64 .bf16) (r : Fin 4) : FVec F S128x64 .bf16 :=
  concatenate S128x64 0 [⟨S64x64, extractStridedSlice S64x64 ![64 * (r.val + 4 * (0 : Fin 2).val), 0] z (slC r 0)⟩,
    ⟨S64x64, extractStridedSlice S64x64 ![64 * (r.val + 4 * (1 : Fin 2).val), 0] z (slC r 1)⟩] concatenates_S64x64_S64x64_S128x64_d0

/-- The weights of the rows of residue `r` over the keys of residue `r`. -/
def wB (b : Fin 2) (h : Fin 8) (r : Fin 4) : FVec F S128x128 .f32 :=
  exp (mulf (matmul dot_S128x64_S128x64_S128x128_1_1_0_0_n_n none (two (qH I b h) r) (two (kH I b h) r) (constant S128x128 .f32 0x00000000#32))
    (broadcast S128x128 (Scalar.ofBits .f32 0x3E000000#32)))

/-- The weighted values and the row sums. -/
def nB (b : Fin 2) (h : Fin 8) (r : Fin 4) : FVec F S128x64 .f32 :=
  matmul dot_S128x128_S128x64_S128x64_1_0_0_1_n_n none (truncf .bf16 (wB I b h r) bitsLt_bf16_f32) (two (vH I b h) r) (constant S128x64 .f32 0x00000000#32)

def dB (b : Fin 2) (h : Fin 8) (r : Fin 4) : FVec F S128x1 .f32 :=
  shapeCast S128x1 (multiReduction .add [1] S128 (wB I b h r) 0x00000000#32 reduces_S128x128_S128 (.inl rfl) rfl) shapeCasts_S128_S128x1

/-- The blocks stored: the partial numerators, their rounded copy, the partial denominators. -/
def nP (b : Fin 2) (h : Fin 8) (r : Fin 4) (s : Fin 2) : FVec F S1x64x64 .f32 :=
  shapeCast S1x64x64 (extractStridedSlice S64x64 ![64 * s.val, 0] (nB I b h r) (slN' s)) shapeCasts_S64x64_S1x64x64

def sP (b : Fin 2) (h : Fin 8) (r : Fin 4) (s : Fin 2) : FVec F S1x64x64 .bf16 :=
  shapeCast S1x64x64 (truncf .bf16 (extractStridedSlice S64x64 ![64 * s.val, 0] (nB I b h r) (slN' s)) bitsLt_bf16_f32) shapeCasts_S64x64_S1x64x64

def dP (b : Fin 2) (h : Fin 8) (r : Fin 4) (s : Fin 2) : FVec F S64x1 .f32 :=
  shapeCast S64x1 (extractStridedSlice S64x1 ![64 * s.val, 0] (dB I b h r) (slD' s)) shapeCasts_S64x1_S64x1

/-! ## The stores in order -/

/-- Head and residue of the `n`-th round of one batch. -/
def hOf (n : ℕ) : Fin 8 := ⟨n / 4 % 8, Nat.mod_lt _ (by decide)⟩
def rOf (n : ℕ) : Fin 4 := ⟨n % 4, Nat.mod_lt _ (by decide)⟩

/-- The stores of the first `n` rounds of batch `b` into a buffer of the numerators' shape, the last one first. -/
def runP {e : EltTy} (w : Fin 2 → Fin 8 → Fin 4 → Fin 2 → S1x64x64.Idx → Elt F e) (b : Fin 2) : ℕ → List (View.Piece (Elt F) S2x512x512 e)
  | 0 => []
  | n + 1 => ⟨Rect.unit (s := S2x512x512) ![b.val, 64 * ((rOf n).val + 4 * (1 : Fin 2).val), 64 * (hOf n).val] S1x64x64.size (inP b (hOf n) (rOf n) 1), w b (hOf n) (rOf n) 1⟩
      :: ⟨Rect.unit (s := S2x512x512) ![b.val, 64 * ((rOf n).val + 4 * (0 : Fin 2).val), 64 * (hOf n).val] S1x64x64.size (inP b (hOf n) (rOf n) 0), w b (hOf n) (rOf n) 0⟩
      :: runP w b n

/-- The stores of the first `n` rounds of batch `b` into the denominators. -/
def runD (w : Fin 2 → Fin 8 → Fin 4 → Fin 2 → S64x1.Idx → Elt F .f32) (b : Fin 2) : ℕ → List (View.Piece (Elt F) S512x16 .f32)
  | 0 => []
  | n + 1 => ⟨Rect.unit (s := S512x16) ![64 * ((rOf n).val + 4 * (1 : Fin 2).val), 8 * b.val + (hOf n).val] S64x1.size (inD b (hOf n) (rOf n) 1), w b (hOf n) (rOf n) 1⟩
      :: ⟨Rect.unit (s := S512x16) ![64 * ((rOf n).val + 4 * (0 : Fin 2).val), 8 * b.val + (hOf n).val] S64x1.size (inD b (hOf n) (rOf n) 0), w b (hOf n) (rOf n) 0⟩
      :: runD w b n

/-! ## What the stores leave -/

/-- One array of the numerators' shape out of its blocks. -/
def ofP {e : EltTy} (w : Fin 2 → Fin 8 → Fin 4 → Fin 2 → S1x64x64.Idx → Elt F e) : S2x512x512.Idx → Elt F e := fun i =>
  w (i 0) ⟨(i 2).val / 64, by have h : (i 2).val < 512 := (i 2).isLt; omega⟩ ⟨(i 1).val / 64 % 4, Nat.mod_lt _ (by decide)⟩
    ⟨(i 1).val / 256, by have h : (i 1).val < 512 := (i 1).isLt; omega⟩
    (ix3 (0 : Fin 1) (⟨(i 1).val % 64, Nat.mod_lt _ (by decide)⟩ : Fin 64) (⟨(i 2).val % 64, Nat.mod_lt _ (by decide)⟩ : Fin 64))

/-- The denominators out of their blocks. -/
def ofD (w : Fin 2 → Fin 8 → Fin 4 → Fin 2 → S64x1.Idx → Elt F .f32) : S512x16.Idx → Elt F .f32 := fun i =>
  w ⟨(i 1).val / 8, by have h : (i 1).val < 16 := (i 1).isLt; omega⟩ ⟨(i 1).val % 8, Nat.mod_lt _ (by decide)⟩ ⟨(i 0).val / 64 % 4, Nat.mod_lt _ (by decide)⟩
    ⟨(i 0).val / 256, by have h : (i 0).val < 512 := (i 0).isLt; omega⟩
    (ix2 (⟨(i 0).val % 64, Nat.mod_lt _ (by decide)⟩ : Fin 64) (0 : Fin 1))

theorem unit_emb {s : Shape} {off size : Fin s.rank → ℕ} (inb : ∀ a, off a + size a ≤ s.size a) (y : (Rect.unit off size inb).shape.Idx) (a : Fin s.rank) :
    ((Rect.unit off size inb).emb y a).val = off a + (y a).val := by
  rw [Rect.emb_apply]; show off a + 1 * (y a).val = _; omega

theorem ofP_at {e : EltTy} (w : Fin 2 → Fin 8 → Fin 4 → Fin 2 → S1x64x64.Idx → Elt F e) (b : Fin 2) (h : Fin 8) (r : Fin 4) (s : Fin 2) (y : S1x64x64.Idx)
    (i : S2x512x512.Idx) (e0 : (i 0).val = b.val) (e1 : (i 1).val = 64 * (r.val + 4 * s.val) + (y 1).val) (e2 : (i 2).val = 64 * h.val + (y 2).val) :
    ofP w i = w b h r s y := by
  have h0 : (y 0).val < 1 := (y 0).isLt
  have h1 : (y 1).val < 64 := (y 1).isLt
  have h2 : (y 2).val < 64 := (y 2).isLt
  have hr := r.isLt; have hs := s.isLt; have hh := h.isLt; have hb := b.isLt
  have a0 : (i 0 : Fin 2) = b := Fin.ext e0
  have a1 : (⟨(i 2).val / 64, by have h : (i 2).val < 512 := (i 2).isLt; omega⟩ : Fin 8) = h := Fin.ext (by show (i 2).val / 64 = _; omega)
  have a2 : (⟨(i 1).val / 64 % 4, Nat.mod_lt _ (by decide)⟩ : Fin 4) = r := Fin.ext (by show (i 1).val / 64 % 4 = _; omega)
  have a3 : (⟨(i 1).val / 256, by have h : (i 1).val < 512 := (i 1).isLt; omega⟩ : Fin 2) = s := Fin.ext (by show (i 1).val / 256 = _; omega)
  have a4 : (ix3 (0 : Fin 1) (⟨(i 1).val % 64, Nat.mod_lt _ (by decide)⟩ : Fin 64) (⟨(i 2).val % 64, Nat.mod_lt _ (by decide)⟩ : Fin 64)) = y := by
    funext a; apply Fin.ext
    fin_cases a
    · show 0 = (y 0).val; omega
    · show (i 1).val % 64 = (y 1).val; omega
    · show (i 2).val % 64 = (y 2).val; omega
  unfold ofP
  rw [a0, a1, a2, a3, a4]

theorem ofD_at (w : Fin 2 → Fin 8 → Fin 4 → Fin 2 → S64x1.Idx → Elt F .f32) (b : Fin 2) (h : Fin 8) (r : Fin 4) (s : Fin 2) (y : S64x1.Idx)
    (i : S512x16.Idx) (e0 : (i 0).val = 64 * (r.val + 4 * s.val) + (y 0).val) (e1 : (i 1).val = 8 * b.val + h.val) :
    ofD w i = w b h r s y := by
  have h0 : (y 0).val < 64 := (y 0).isLt
  have h1 : (y 1).val < 1 := (y 1).isLt
  have hr := r.isLt; have hs := s.isLt; have hh := h.isLt; have hb := b.isLt
  have a0 : (⟨(i 1).val / 8, by have h : (i 1).val < 16 := (i 1).isLt; omega⟩ : Fin 2) = b := Fin.ext (by show (i 1).val / 8 = _; omega)
  have a1 : (⟨(i 1).val % 8, Nat.mod_lt _ (by decide)⟩ : Fin 8) = h := Fin.ext (by show (i 1).val % 8 = _; omega)
  have a2 : (⟨(i 0).val / 64 % 4, Nat.mod_lt _ (by decide)⟩ : Fin 4) = r := Fin.ext (by show (i 0).val / 64 % 4 = _; omega)
  have a3 : (⟨(i 0).val / 256, by have h : (i 0).val < 512 := (i 0).isLt; omega⟩ : Fin 2) = s := Fin.ext (by show (i 0).val / 256 = _; omega)
  have a4 : (ix2 (⟨(i 0).val % 64, Nat.mod_lt _ (by decide)⟩ : Fin 64) (0 : Fin 1)) = y := by
    funext a; apply Fin.ext
    fin_cases a
    · show (i 0).val % 64 = (y 0).val; omega
    · show 0 = (y 1).val; omega
  unfold ofD
  rw [a0, a1, a2, a3, a4]

/-- The stores of any number of rounds agree with the array. -/
theorem runP_agree {e : EltTy} (w : Fin 2 → Fin 8 → Fin 4 → Fin 2 → S1x64x64.Idx → Elt F e) (b : Fin 2) :
    ∀ n, ∀ p ∈ runP w b n, ∀ y : p.1.shape.Idx, p.2 y = ofP w (p.1.emb y)
  | 0, p, hp => by simp [runP] at hp
  | n + 1, p, hp => by
    rcases List.mem_cons.mp hp with rfl | hp
    · intro y
      have h0 : (y 0).val < 1 := (y 0).isLt
      refine (ofP_at w b (hOf n) (rOf n) 1 y _ ?_ ?_ ?_).symm
      · refine (unit_emb (inP b (hOf n) (rOf n) 1) y 0).trans ?_; show b.val + (y 0).val = _; omega
      · exact unit_emb (inP b (hOf n) (rOf n) 1) y 1
      · exact unit_emb (inP b (hOf n) (rOf n) 1) y 2
    rcases List.mem_cons.mp hp with rfl | hp
    · intro y
      have h0 : (y 0).val < 1 := (y 0).isLt
      refine (ofP_at w b (hOf n) (rOf n) 0 y _ ?_ ?_ ?_).symm
      · refine (unit_emb (inP b (hOf n) (rOf n) 0) y 0).trans ?_; show b.val + (y 0).val = _; omega
      · exact unit_emb (inP b (hOf n) (rOf n) 0) y 1
      · exact unit_emb (inP b (hOf n) (rOf n) 0) y 2
    exact runP_agree w b n p hp

theorem runD_agree (w : Fin 2 → Fin 8 → Fin 4 → Fin 2 → S64x1.Idx → Elt F .f32) (b : Fin 2) :
    ∀ n, ∀ p ∈ runD w b n, ∀ y : p.1.shape.Idx, p.2 y = ofD w (p.1.emb y)
  | 0, p, hp => by simp [runD] at hp
  | n + 1, p, hp => by
    rcases List.mem_cons.mp hp with rfl | hp
    · intro y
      have h1 : (y 1).val < 1 := (y 1).isLt
      refine (ofD_at w b (hOf n) (rOf n) 1 y _ ?_ ?_).symm
      · exact unit_emb (inD b (hOf n) (rOf n) 1) y 0
      · refine (unit_emb (inD b (hOf n) (rOf n) 1) y 1).trans ?_; show 8 * b.val + (hOf n).val + (y 1).val = _; omega
    rcases List.mem_cons.mp hp with rfl | hp
    · intro y
      have h1 : (y 1).val < 1 := (y 1).isLt
      refine (ofD_at w b (hOf n) (rOf n) 0 y _ ?_ ?_).symm
      · exact unit_emb (inD b (hOf n) (rOf n) 0) y 0
      · refine (unit_emb (inD b (hOf n) (rOf n) 0) y 1).trans ?_; show 8 * b.val + (hOf n).val + (y 1).val = _; omega
    exact runD_agree w b n p hp

/-- Round `m` is among the first `n`, so both its stores are in the list. -/
theorem runP_mem {e : EltTy} (w : Fin 2 → Fin 8 → Fin 4 → Fin 2 → S1x64x64.Idx → Elt F e) (b : Fin 2) (m : ℕ) (s : Fin 2) :
    ∀ n, m < n → ∃ p ∈ runP w b n, p.1.set = (Rect.unit (s := S2x512x512) ![b.val, 64 * ((rOf m).val + 4 * s.val), 64 * (hOf m).val] S1x64x64.size (inP b (hOf m) (rOf m) s)).set
  | 0, h => absurd h (Nat.not_lt_zero _)
  | n + 1, h => by
    by_cases e : m = n
    · subst e
      rcases s with ⟨_ | _ | s, hs⟩
      · exact ⟨_, List.mem_cons_of_mem _ List.mem_cons_self, rfl⟩
      · exact ⟨_, List.mem_cons_self, rfl⟩
      · omega
    · obtain ⟨p, hp, hq⟩ := runP_mem w b m s n (by omega)
      exact ⟨p, List.mem_cons_of_mem _ (List.mem_cons_of_mem _ hp), hq⟩

theorem runD_mem (w : Fin 2 → Fin 8 → Fin 4 → Fin 2 → S64x1.Idx → Elt F .f32) (b : Fin 2) (m : ℕ) (s : Fin 2) :
    ∀ n, m < n → ∃ p ∈ runD w b n, p.1.set = (Rect.unit (s := S512x16) ![64 * ((rOf m).val + 4 * s.val), 8 * b.val + (hOf m).val] S64x1.size (inD b (hOf m) (rOf m) s)).set
  | 0, h => absurd h (Nat.not_lt_zero _)
  | n + 1, h => by
    by_cases e : m = n
    · subst e
      rcases s with ⟨_ | _ | s, hs⟩
      · exact ⟨_, List.mem_cons_of_mem _ List.mem_cons_self, rfl⟩
      · exact ⟨_, List.mem_cons_self, rfl⟩
      · omega
    · obtain ⟨p, hp, hq⟩ := runD_mem w b m s n (by omega)
      exact ⟨p, List.mem_cons_of_mem _ (List.mem_cons_of_mem _ hp), hq⟩

/-- All rounds of a batch cover its slab. -/
theorem runP_cover {e : EltTy} (w : Fin 2 → Fin 8 → Fin 4 → Fin 2 → S1x64x64.Idx → Elt F e) (b : Fin 2) (i : S2x512x512.Idx) (hi : (i 0).val = b.val) :
    ∃ p ∈ runP w b 32, i ∈ p.1.set := by
  have h1 : (i 1).val < 512 := (i 1).isLt
  have h2 : (i 2).val < 512 := (i 2).isLt
  obtain ⟨p, hp, hq⟩ := runP_mem w b ((i 2).val / 64 * 4 + (i 1).val / 64 % 4) ⟨(i 1).val / 256, by omega⟩ 32 (by omega)
  refine ⟨p, hp, ?_⟩
  rw [hq, Rect.mem_set_unit]
  intro a
  fin_cases a
  · show b.val ≤ (i 0).val ∧ (i 0).val < b.val + 1; omega
  · show 64 * (((i 2).val / 64 * 4 + (i 1).val / 64 % 4) % 4 + 4 * ((i 1).val / 256)) ≤ (i 1).val ∧ (i 1).val < 64 * (((i 2).val / 64 * 4 + (i 1).val / 64 % 4) % 4 + 4 * ((i 1).val / 256)) + 64
    omega
  · show 64 * (((i 2).val / 64 * 4 + (i 1).val / 64 % 4) / 4 % 8) ≤ (i 2).val ∧ (i 2).val < 64 * (((i 2).val / 64 * 4 + (i 1).val / 64 % 4) / 4 % 8) + 64
    omega

theorem runD_cover (w : Fin 2 → Fin 8 → Fin 4 → Fin 2 → S64x1.Idx → Elt F .f32) (i : S512x16.Idx) :
    ∃ b : Fin 2, ∃ p ∈ runD w b 32, i ∈ p.1.set := by
  have h0 : (i 0).val < 512 := (i 0).isLt
  have h1 : (i 1).val < 16 := (i 1).isLt
  obtain ⟨p, hp, hq⟩ := runD_mem w ⟨(i 1).val / 8, by omega⟩ ((i 1).val % 8 * 4 + (i 0).val / 64 % 4) ⟨(i 0).val / 256, by omega⟩ 32 (by omega)
  refine ⟨_, p, hp, ?_⟩
  rw [hq, Rect.mem_set_unit]
  intro a
  fin_cases a
  · show 64 * (((i 1).val % 8 * 4 + (i 0).val / 64 % 4) % 4 + 4 * ((i 0).val / 256)) ≤ (i 0).val ∧ (i 0).val < 64 * (((i 1).val % 8 * 4 + (i 0).val / 64 % 4) % 4 + 4 * ((i 0).val / 256)) + 64
    omega
  · show 8 * ((i 1).val / 8) + ((i 1).val % 8 * 4 + (i 0).val / 64 % 4) / 4 % 8 ≤ (i 1).val ∧ (i 1).val < 8 * ((i 1).val / 8) + ((i 1).val % 8 * 4 + (i 0).val / 64 % 4) / 4 % 8 + 1
    omega

end Cert.KernelIdeal.Run

end
-- ==== Proof.Steps.lean ====
/-
# The steps of the protocol

One lemma per kind of communication step, at any transfer: the signal of a peer's barrier, the wait on the own barrier,
the send of a slab or of the denominators, the waits on a send cell and on a receive cell (each closing the cell).
-/
module

public import proofs.«01_k».proof.Proof.Setup

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem credN (j : Fin 3) (b : Fin 2) : (slN j b).view.dmaCredit = NN := rfl
theorem credD (j : Fin 3) : (slD j).view.dmaCredit = ND := rfl

abbrev 𝒱₀ : Variants := Variants.none

variable (Z : Sent F) (K : Dev nD × CI → ℕ)

/-- Every cell's invariant, and that every cell has reached round 0. -/
def records : sProp 𝕄 :=
  iprop((bigSep Finset.univ fun ck : Dev nD × CI => cellInv ER (rd Z) (K ck) (kcell ck))
    ∗ bigSep Finset.univ fun ck : Dev nD × CI => reached ER (kcell ck) 0)

omit [FloatOps F] in
instance records_persistent : BI.Persistent (records (F := F) Z K) := by unfold records; infer_instance

section Steps
omit [FloatOps F]

theorem inv_at (ck : Dev nD × CI) : records Z K ⊢ (cellInv ER (rd Z) (K ck) (kcell ck) : sProp 𝕄) := by
  have h : (bigSep Finset.univ fun ck : Dev nD × CI => (cellInv ER (rd Z) (K ck) (kcell ck) : sProp 𝕄)) ⊢ cellInv ER (rd Z) (K ck) (kcell ck) := bigSep_elim (Finset.mem_univ ck)
  unfold records; iintro ⟨H, -⟩
  iapply h; iexact H
theorem reached_at (ck : Dev nD × CI) : records Z K ⊢ (reached ER (kcell ck) 0 : sProp 𝕄) := by
  have h : (bigSep Finset.univ fun ck : Dev nD × CI => (reached ER (kcell ck) 0 : sProp 𝕄)) ⊢ reached ER (kcell ck) 0 := bigSep_elim (Finset.mem_univ ck)
  unfold records; iintro ⟨-, H⟩
  iapply h; iexact H

/-- What device `c` owes, its recorded waits left open. -/
def ow (c : Dev nD) (O : CellTallies nD τ sig Unit) : sProp 𝕄 := iprop(∃ W, owes (c : Thread nD τ) O W)

/-- The tokens of a transfer, and what its two waits need. -/
def xfer (c : Dev nD) (t : T) : sProp 𝕄 := iprop(dutyTok ER (sndCell t c) 0 0 ∗ dutyTok ER (rcvCell t (dst t c)) 0 0)
def atS (c : Dev nD) (t : T) : sProp 𝕄 := atPos ER (sndCell t c) 0 ∅ 0
def atR (c : Dev nD) (t : T) : sProp 𝕄 := iprop(atPos ER (rcvCell t c) 0 ∅ 0 ∗ cred (tallyAt (rcvCell t c) () (Nt t)))

end Steps

variable (c : Dev nD)

/-- The signal to the device at distance `d + 1`: it gets this device's slots. -/
theorem step_signal (d : Fin 3) (l : List (Fin 3)) (n : Dev nD) (hn : n = nx d c) (sm : Sem sig) (hs : sm = barS)
    {α : Type} {Q : α → sProp 𝕄} {k : PUnit → Prog (TpuEff nD τ sig (Elt F) Λ₀ .tc) α} :
    iprop(records Z K ∗ ow c (oweB c (d :: l)) ∗ dutyTok ER (barCell (nx d c)) 0 d ∗ slots c d.rev)
      ⊢ iprop((ow c (oweB c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm 1) k) Q) := by
  subst hn hs
  unfold ow
  iintro ⟨#HR, ⟨%W, HO⟩, Ht, Hs⟩ Hk
  iapply (Rounds.wp_signal 𝒱₀ ER (rd Z) (c : Thread nD τ) none (dst := (nx d c : Thread nD τ)) (κ := K (nx d c, none))
      (d := d) (by rw [duties_bar]; exact Finset.mem_univ _) (amount_bar Z (nx d c) d) () (oweB c l) rfl) $$ [HO Ht Hs]
  · isplitr; · iapply (inv_at Z K (nx d c, none)); iexact HR
    isplitl [HO]; · iexact HO
    isplitl [Ht]; · iexact Ht
    isplitl [Hs]; · rw [payload_bar]; unfold barPay; rw [pv_nx]; iexact Hs
    iapply (reached_at Z K (nx d c, none)); iexact HR
  iintro HO
  iapply Hk
  iexists W; iexact HO

/-- The wait on the own barrier: the peers' slots. -/
theorem step_barrier (sm : Sem sig) (hs : sm = barS)
    {α : Type} {Q : α → sProp 𝕄} {k : PUnit → Prog (TpuEff nD τ sig (Elt F) Λ₀ .tc) α} :
    iprop(records Z K ∗ levAts L lv ∗ ow c (oweB c []) ∗ cred (tallyAt (barCell c) () 3) ∗ atPos ER (barCell c) 0 ∅ 0)
      ⊢ iprop((iprop(ow c (owe c order) ∗ semVal (barCell c) 0 ∗ slots (nx 2 c) 2 ∗ slots (nx 1 c) 1 ∗ slots (nx 0 c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm 3) k) Q) := by
  subst hs
  unfold ow
  iintro ⟨#HR, #Hlev, ⟨%W, HO⟩, Hc, Hat⟩ Hk
  iapply (Rounds.wp_wait_rest_token 𝒱₀ ER (rd Z) (c : Thread nD τ) none (κ := K (c, none))
      (wpE_semWait_eq 𝒱₀ (c : Thread nD τ) none Set.univ) (Set.mem_univ _) () (O := owe c order) (W := W) (R := 0) (m := 0) (T := ∅)
      (by rw [expect_bar])) $$ [Hc HO Hat]
  · isplitr; · iapply (inv_at Z K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar Z c)) $$ Hpay
  imod (Rounds.cell_close ER (rd Z) (Set.mem_univ (K (c, none))) (fun h => h) (R := 0 + 1) (duties_later Z (barCell c))) $$ [Hat] with Hz
  · isplitr; · iapply (inv_at Z K (c, none)); iexact HR
    iexact Hat
  iapply Hk
  isplitl [HO]; · iexists _; iexact HO
  isplitl [Hz]; · iexact Hz
  iexact Hp

/-- A slab's landing in its slot: the slot holds the sender's slab. -/
theorem land_num (j : Fin 3) (b : Fin 2) (f : S3x2x512x512.Idx → Elt F .bf16) :
    ((slN j b).view.loc (nx j c : Thread nD τ) ↦[(slN j b).view.set]{fullShare}
      ((slN j b).view.write (Elt F) f ((slS b).view.read (Elt F) (Z.num c)) Finset.univ) : sProp 𝕄) ⊢ ptN (nx j c) j b (cnC Z (nx j c)) := by
  unfold ptN
  refine Entails.of_eq (pointsTo_congr fun i hi => ?_)
  obtain ⟨x, -, rfl⟩ := Finset.mem_map.mp hi
  rw [View.write_emb_of_mem _ _ (Finset.mem_univ _)]
  show Z.num c ((slS b).view.emb x) = _
  rw [slN_emb, slS_emb]
  show _ = Z.num (pv j (nx j c)) _
  rw [pv_nx]

theorem land_den (j : Fin 3) (f : S3x512x16.Idx → Elt F .f32) :
    ((slD j).view.loc (nx j c : Thread nD τ) ↦[(slD j).view.set]{fullShare}
      ((slD j).view.write (Elt F) f (denM.view.read (Elt F) (Z.den c)) Finset.univ) : sProp 𝕄) ⊢ ptD (nx j c) j (cdC Z (nx j c)) := by
  unfold ptD
  refine Entails.of_eq (pointsTo_congr fun i hi => ?_)
  obtain ⟨x, -, rfl⟩ := Finset.mem_map.mp hi
  rw [View.write_emb_of_mem _ _ (Finset.mem_univ _)]
  show Z.den c x = _
  rw [slD_emb]
  show _ = Z.den (pv j (nx j c)) _
  rw [pv_nx]; exact congrArg _ (eq_ix2 x)

/-- The send of slab `b` at distance `j + 1`. -/
theorem step_send_num (j : Fin 3) (b : Fin 2) (l : List T) (n : Dev nD) (hn : n = nx j c)
    {srcM : Memref sig .tc .vmem S512x512 .bf16} {dstM : Memref sig (Dev.tc n : Thread nD τ).2.kind .vmem S512x512 .bf16} {sS sR : DmaSem sig}
    (e1 : srcM = slS b) (e2 : dstM = slN j b) (e3 : sS = sD (.inl (j, b))) (e4 : sR = rD (.inl (j, b)))
    {hsc : dstM.view.ref.isScScratch = false} {hsrc : srcM.view.WordExact} {hdst : dstM.view.WordExact}
    {hsem : DmaTarget.Typed .vmem (.dma sR) (.remote (Dev.tc n : Thread nD τ) dstM (.dma sS) hsc)}
    {α : Type} {Q : α → sProp 𝕄} {k : PUnit → Prog (TpuEff nD τ sig (Elt F) Λ₀ .tc) α} :
    iprop(records Z K ∗ ow c (owe c (.inl (j, b) :: l)) ∗ xfer c (.inl (j, b)) ∗ ptS c j b (Z.num c) ∗ (∃ f, ptN (nx j c) j b f))
      ⊢ iprop((iprop(ow c (owe c l) ∗ cred (tallyAt (sndCell (.inl (j, b)) c) () NN))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sS) hsc) (.dma sR) hsrc hdst hsem) k) Q) := by
  subst hn e1 e2 e3 e4
  unfold ow xfer
  iintro ⟨#HR, ⟨%W, HO⟩, ⟨Ht1, Ht2⟩, Hs, ⟨%f, Hd⟩⟩ Hk
  iapply (Rounds.wp_send_pointsTo 𝒱₀ ER (rd Z) (c : Thread nD τ) none (c' := (nx j c : Thread nD τ)) (κ₁ := K (c, some (false, .inl (j, b)))) (κ₂ := K (nx j c, some (true, .inl (j, b))))
    (src := slS b) (dst := slN j b) (sS := .dma (sD (.inl (j, b)))) (sem := .dma (rD (.inl (j, b)))) (q := Ring.shares3 fullShare j) (fs := Z.num c) (fd := f)
    (r₁ := 0) (r₂ := 0) (d₁ := 0) (d₂ := 0)
    (by rw [duties_snd]; exact Finset.mem_singleton_self _) (by rw [duties_rcv]; exact Finset.mem_singleton_self _)
    () () NN (credN j b) (amount_snd Z c (.inl (j, b)) 0) (amount_rcv Z (nx j c) (.inl (j, b)) 0) (owe c l) rfl (W := W)
    (by rw [payload_snd]; exact BI.Entails.refl _)
    (by rw [payload_rcv]; exact land_num Z c j b f)) $$ [HO Ht1 Ht2 Hs Hd]
  · isplitr; · iapply (inv_at Z K (c, some (false, .inl (j, b)))); iexact HR
    isplitr; · iapply (inv_at Z K (nx j c, some (true, .inl (j, b)))); iexact HR
    isplitl [Hs]; · unfold ptS; iexact Hs
    isplitl [Hd]; · unfold ptN; iexact Hd
    isplitl [HO]; · iexact HO
    isplitl [Ht1]; · iexact Ht1
    isplitr; · iapply (reached_at Z K (c, some (false, .inl (j, b)))); iexact HR
    isplitl [Ht2]; · iexact Ht2
    iapply (reached_at Z K (nx j c, some (true, .inl (j, b)))); iexact HR
  iintro ⟨Hc, HO⟩
  iapply Hk
  isplitl [HO]; · iexists W; iexact HO
  iexact Hc

/-- The send of the denominators at distance `j + 1`. -/
theorem step_send_den (j : Fin 3) (l : List T) (n : Dev nD) (hn : n = nx j c)
    {dstM : Memref sig (Dev.tc n : Thread nD τ).2.kind .vmem S512x16 .f32} {sS sR : DmaSem sig}
    (e2 : dstM = slD j) (e3 : sS = sD (.inr j)) (e4 : sR = rD (.inr j))
    {hsc : dstM.view.ref.isScScratch = false} {hsrc : denM.view.WordExact} {hdst : dstM.view.WordExact}
    {hsem : DmaTarget.Typed .vmem (.dma sR) (.remote (Dev.tc n : Thread nD τ) dstM (.dma sS) hsc)}
    {α : Type} {Q : α → sProp 𝕄} {k : PUnit → Prog (TpuEff nD τ sig (Elt F) Λ₀ .tc) α} :
    iprop(records Z K ∗ ow c (owe c (.inr j :: l)) ∗ xfer c (.inr j) ∗ ptE c j (Z.den c) ∗ (∃ f, ptD (nx j c) j f))
      ⊢ iprop((iprop(ow c (owe c l) ∗ cred (tallyAt (sndCell (.inr j) c) () ND))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma denM (.remote (Dev.tc n : Thread nD τ) dstM (.dma sS) hsc) (.dma sR) hsrc hdst hsem) k) Q) := by
  subst hn e2 e3 e4
  unfold ow xfer
  iintro ⟨#HR, ⟨%W, HO⟩, ⟨Ht1, Ht2⟩, Hs, ⟨%f, Hd⟩⟩ Hk
  iapply (Rounds.wp_send_pointsTo 𝒱₀ ER (rd Z) (c : Thread nD τ) none (c' := (nx j c : Thread nD τ)) (κ₁ := K (c, some (false, .inr j))) (κ₂ := K (nx j c, some (true, .inr j)))
    (src := denM) (dst := slD j) (sS := .dma (sD (.inr j))) (sem := .dma (rD (.inr j))) (q := Ring.shares3 fullShare j) (fs := Z.den c) (fd := f)
    (r₁ := 0) (r₂ := 0) (d₁ := 0) (d₂ := 0)
    (by rw [duties_snd]; exact Finset.mem_singleton_self _) (by rw [duties_rcv]; exact Finset.mem_singleton_self _)
    () () ND (credD j) (amount_snd Z c (.inr j) 0) (amount_rcv Z (nx j c) (.inr j) 0) (owe c l) rfl (W := W)
    (by rw [payload_snd]; exact BI.Entails.refl _)
    (by rw [payload_rcv]; exact land_den Z c j f)) $$ [HO Ht1 Ht2 Hs Hd]
  · isplitr; · iapply (inv_at Z K (c, some (false, .inr j))); iexact HR
    isplitr; · iapply (inv_at Z K (nx j c, some (true, .inr j))); iexact HR
    isplitl [Hs]; · unfold ptE; iexact Hs
    isplitl [Hd]; · unfold ptD; iexact Hd
    isplitl [HO]; · iexact HO
    isplitl [Ht1]; · iexact Ht1
    isplitr; · iapply (reached_at Z K (c, some (false, .inr j))); iexact HR
    isplitl [Ht2]; · iexact Ht2
    iapply (reached_at Z K (nx j c, some (true, .inr j))); iexact HR
  iintro ⟨Hc, HO⟩
  iapply Hk
  isplitl [HO]; · iexists W; iexact HO
  iexact Hc

/-- The wait on a send cell: the lent share of the source is back. -/
theorem step_wait_snd (t : T) {sm : DmaSem sig} (hs : sm = sD t) {κ' : Kind} {sp sp' : Space} {s s' : Shape} {e e' : EltTy}
    {srcM : Memref sig .tc sp' s' e'} {dstM : Memref sig κ' sp s e} {hsrc : srcM.view.WordExact} {hdst : dstM.view.WordExact} (hN : dstM.view.dmaCredit = Nt t)
    {α : Type} {Q : α → sProp 𝕄} {k : PUnit → Prog (TpuEff nD τ sig (Elt F) Λ₀ .tc) α} :
    iprop(records Z K ∗ ow c (owe c []) ∗ cred (tallyAt (sndCell t c) () (Nt t)) ∗ atS c t)
      ⊢ iprop((iprop(ow c (owe c []) ∗ semVal (sndCell t c) 0 ∗ sndPay Z c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcM dstM hsrc hdst) k) Q) := by
  subst hs
  unfold ow atS
  iintro ⟨#HR, ⟨%W, HO⟩, Hc, Hat⟩ Hk
  iapply (Rounds.wp_wait_rest_token 𝒱₀ ER (rd Z) (c : Thread nD τ) none (κ := K (c, some (false, t)))
      (wpE_waitDma2_eq 𝒱₀ (c : Thread nD τ) none Set.univ) (Set.mem_univ _) () (O := 0) (W := W) (R := 0) (m := 0) (T := ∅)
      (by rw [Nat.zero_add, expect_snd, hN])) $$ [Hc HO Hat]
  · isplitr; · iapply (inv_at Z K (c, some (false, t))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_snd Z c t)) $$ Hpay
  imod (Rounds.cell_close ER (rd Z) (Set.mem_univ (K (c, some (false, t)))) (fun h => h) (R := 0 + 1) (duties_later Z (sndCell t c))) $$ [Hat] with Hz
  · isplitr; · iapply (inv_at Z K (c, some (false, t))); iexact HR
    iexact Hat
  iapply Hk
  isplitl [HO]; · iexists _; iexact HO
  isplitl [Hz]; · iexact Hz
  iexact Hp

/-- The wait on a receive cell: the slot, holding the sender's data. -/
theorem step_wait_rcv (t : T) {sm : DmaSem sig} (hs : sm = rD t) {κ' : Kind} {sp sp' : Space} {s s' : Shape} {e e' : EltTy}
    {srcM : Memref sig .tc sp' s' e'} {dstM : Memref sig κ' sp s e} {hsrc : srcM.view.WordExact} {hdst : dstM.view.WordExact} (hN : dstM.view.dmaCredit = Nt t)
    {α : Type} {Q : α → sProp 𝕄} {k : PUnit → Prog (TpuEff nD τ sig (Elt F) Λ₀ .tc) α} :
    iprop(records Z K ∗ ow c (owe c []) ∗ atR c t)
      ⊢ iprop((iprop(ow c (owe c []) ∗ semVal (rcvCell t c) 0 ∗ rcvPay Z c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm srcM dstM hsrc hdst) k) Q) := by
  subst hs
  unfold ow atR
  iintro ⟨#HR, ⟨%W, HO⟩, Hat, Hc⟩ Hk
  iapply (Rounds.wp_wait_rest_token 𝒱₀ ER (rd Z) (c : Thread nD τ) none (κ := K (c, some (true, t)))
      (wpE_waitDma2_eq 𝒱₀ (c : Thread nD τ) none Set.univ) (Set.mem_univ _) () (O := 0) (W := W) (R := 0) (m := 0) (T := ∅)
      (by rw [Nat.zero_add, expect_rcv, hN])) $$ [Hc HO Hat]
  · isplitr; · iapply (inv_at Z K (c, some (true, t))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_rcv Z c t)) $$ Hpay
  imod (Rounds.cell_close ER (rd Z) (Set.mem_univ (K (c, some (true, t)))) (fun h => h) (R := 0 + 1) (duties_later Z (rcvCell t c))) $$ [Hat] with Hz
  · isplitr; · iapply (inv_at Z K (c, some (true, t))); iexact HR
    iexact Hat
  iapply Hk
  isplitl [HO]; · iexists _; iexact HO
  isplitl [Hz]; · iexact Hz
  iexact Hp

end Cert.KernelIdeal.Run

end
-- ==== Proof.Split.lean ====
/-
# The buffers, cut into their parts

Buffers cut into the parts that travel, and joined again.
-/
module

public import proofs.«01_k».proof.Proof.Vals
public import proofs.«01_k».proof.Proof.Steps

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

section Sets
omit [FloatOps F]

theorem mem_slS (b : Fin 2) (i : S2x512x512.Idx) : i ∈ (slS b).view.set ↔ i 0 = b := by
  constructor
  · intro h
    obtain ⟨x, -, rfl⟩ := Finset.mem_map.mp h
    exact congrFun (slS_emb b x) 0
  · intro h
    refine Finset.mem_map.mpr ⟨ix2 (i 1) (i 2), Finset.mem_univ _, (slS_emb b _).trans ?_⟩
    rw [← h]; exact (eq_ix3 i).symm

theorem mem_slN (j : Fin 3) (b : Fin 2) (i : S3x2x512x512.Idx) : i ∈ (slN j b).view.set ↔ i 0 = j ∧ i 1 = b := by
  constructor
  · intro h
    obtain ⟨x, -, rfl⟩ := Finset.mem_map.mp h
    exact ⟨congrFun (slN_emb j b x) 0, congrFun (slN_emb j b x) 1⟩
  · rintro ⟨h, h'⟩
    refine Finset.mem_map.mpr ⟨ix2 (i 2) (i 3), Finset.mem_univ _, (slN_emb j b _).trans ?_⟩
    rw [← h, ← h']; exact (eq_ix4 i).symm

theorem mem_slD (j : Fin 3) (i : S3x512x16.Idx) : i ∈ (slD j).view.set ↔ i 0 = j := by
  constructor
  · intro h
    obtain ⟨x, -, rfl⟩ := Finset.mem_map.mp h
    exact congrFun (slD_emb j x) 0
  · intro h
    refine Finset.mem_map.mpr ⟨ix2 (i 1) (i 2), Finset.mem_univ _, (slD_emb j _).trans ?_⟩
    rw [← h]; exact (eq_ix3 i).symm

/-- The rectangle of slab 1 of the send buffer. -/
abbrev R1 : Rect S2x512x512 := Rect.unit (s := S2x512x512) ![1, 0, 0] S1x512x512.size inb_S2x512x512_S1x512x512_1_0_0

theorem slab1 : (Finset.univ : Finset S2x512x512.Idx) \ (slS 0).view.set = sndM.view.setOn R1.set := by
  ext i
  have e : i ∈ sndM.view.setOn R1.set ↔ i ∈ R1.set := View.mem_setOn (v := sndM.view) (x := i)
  rw [e, Finset.mem_sdiff, mem_slS, Rect.mem_set_unit]
  have h0 : (i 0).val < 2 := (i 0).isLt
  have h1 : (i 1).val < 512 := (i 1).isLt
  have h2 : (i 2).val < 512 := (i 2).isLt
  constructor
  · rintro ⟨-, h⟩ a
    have h' : (i 0).val ≠ 0 := fun e => h (Fin.ext e)
    fin_cases a
    · show 1 ≤ (i 0).val ∧ (i 0).val < 1 + 1; omega
    · show 0 ≤ (i 1).val ∧ (i 1).val < 0 + 512; omega
    · show 0 ≤ (i 2).val ∧ (i 2).val < 0 + 512; omega
  · intro h
    refine ⟨Finset.mem_univ _, fun e => ?_⟩
    have h' : 1 ≤ (i 0).val := (h 0).1
    rw [e] at h'
    exact absurd h' (by decide)

theorem slab1' : sndM.view.setOn R1.set = (slS 1).view.set := by
  rw [← slab1]; ext i
  rw [Finset.mem_sdiff, mem_slS, mem_slS]
  have h0 : (i 0).val < 2 := (i 0).isLt
  constructor
  · rintro ⟨-, h⟩
    have h' : (i 0).val ≠ 0 := fun e => h (Fin.ext e)
    exact Fin.ext (by show (i 0).val = 1; omega)
  · intro h; exact ⟨Finset.mem_univ _, fun h' => by rw [h] at h'; exact absurd (congrArg Fin.val h' : (1 : ℕ) = 0) (by decide)⟩

end Sets

/-! ## After the stores of batch 0 and of batch 1 -/

section Sent
variable (w : Fin 2 → Fin 8 → Fin 4 → Fin 2 → S1x64x64.Idx → Elt F .bf16)

theorem snd_at {f : S2x512x512.Idx → Elt F .bf16} (b : Fin 2) : ∀ i ∈ (slS b).view.set, (sndM.view.writes (Elt F) f (runP w b 32)) i = ofP w i := by
  intro i hi
  exact View.read_writes_apply_of_pieces sndM.view f (ofP w) _ (runP_agree w b 32) i (runP_cover w b i (congrArg Fin.val ((mem_slS b i).mp hi)))

theorem split0 (f : S2x512x512.Idx → Elt F .bf16) (l) (hl : l = runP w 0 32) :
    (sndM.view.loc (c : Thread nD τ) ↦{fullShare} sndM.view.writes (Elt F) f l : sProp 𝕄)
      ⊢ iprop((ptS c 0 0 (ofP w) ∗ ptS c 1 0 (ofP w) ∗ ptS c 2 0 (ofP w))
          ∗ ∃ g, sndM.view.loc (c : Thread nD τ) ↦[sndM.view.setOn R1.set]{fullShare} g) := by
  subst hl
  refine (pointsTo_split_subset (Finset.subset_univ ((slS 0).view.set))).1.trans ?_
  rw [slab1, pointsTo_congr (snd_at w 0)]
  iintro ⟨H0, H1⟩
  isplitl [H0]
  · unfold ptS; iapply (Ring.pointsTo_thirds _ _).1; iexact H0
  · iexists _; iexact H1

theorem split1 (f : S2x512x512.Idx → Elt F .bf16) (l) (hl : l = runP w 1 32) :
    (sndM.view.loc (c : Thread nD τ) ↦[sndM.view.setOn R1.set]{fullShare} sndM.view.writes (Elt F) f l : sProp 𝕄)
      ⊢ iprop(ptS c 0 1 (ofP w) ∗ ptS c 1 1 (ofP w) ∗ ptS c 2 1 (ofP w)) := by
  subst hl
  rw [slab1', pointsTo_congr (snd_at w 1)]
  unfold ptS
  exact (Ring.pointsTo_thirds _ _).1

omit [FloatOps F] in
theorem join_snd (g : S2x512x512.Idx → Elt F .bf16) :
    iprop((ptS c 0 0 g ∗ ptS c 1 0 g ∗ ptS c 2 0 g) ∗ (ptS c 0 1 g ∗ ptS c 1 1 g ∗ ptS c 2 1 g))
      ⊢ (sndM.view.loc (c : Thread nD τ) ↦{fullShare} g : sProp 𝕄) := by
  refine BI.Entails.trans ?_ (pointsTo_split_subset (Finset.subset_univ ((slS 0).view.set))).2
  rw [slab1, slab1']
  unfold ptS
  exact BI.sep_mono (Ring.pointsTo_thirds _ _).2 (Ring.pointsTo_thirds _ _).2

end Sent

section Whole

theorem agree_append {e : EltTy} {s : Shape} {G : s.Idx → Elt F e} {l₁ l₂ : List (View.Piece (Elt F) s e)}
    (h₁ : ∀ p ∈ l₁, ∀ y : p.1.shape.Idx, p.2 y = G (p.1.emb y)) (h₂ : ∀ p ∈ l₂, ∀ y : p.1.shape.Idx, p.2 y = G (p.1.emb y)) :
    ∀ p ∈ l₁ ++ l₂, ∀ y : p.1.shape.Idx, p.2 y = G (p.1.emb y) := fun p hp =>
  (List.mem_append.mp hp).elim (h₁ p) (h₂ p)

theorem par_whole (w : Fin 2 → Fin 8 → Fin 4 → Fin 2 → S1x64x64.Idx → Elt F .f32) (f : S2x512x512.Idx → Elt F .f32) (l) (hl : l = runP w 1 32 ++ runP w 0 32) :
    parM.view.writes (Elt F) f l = ofP w := by
  subst hl
  funext i
  refine View.read_writes_apply_of_pieces parM.view f (ofP w) _ (agree_append (runP_agree w 1 32) (runP_agree w 0 32)) i ?_
  have h0 : (i 0).val < 2 := (i 0).isLt
  by_cases h : (i 0).val = 0
  · obtain ⟨p, hp, hi⟩ := runP_cover w 0 i h
    exact ⟨p, List.mem_append_right _ hp, hi⟩
  · obtain ⟨p, hp, hi⟩ := runP_cover w 1 i (by show (i 0).val = 1; omega)
    exact ⟨p, List.mem_append_left _ hp, hi⟩

theorem den_whole (w : Fin 2 → Fin 8 → Fin 4 → Fin 2 → S64x1.Idx → Elt F .f32) (f : S512x16.Idx → Elt F .f32) (l) (hl : l = runD w 1 32 ++ runD w 0 32) :
    denM.view.writes (Elt F) f l = ofD w := by
  subst hl
  funext i
  refine View.read_writes_apply_of_pieces denM.view f (ofD w) _ (agree_append (runD_agree w 1 32) (runD_agree w 0 32)) i ?_
  obtain ⟨b, p, hp, hi⟩ := runD_cover w i
  have hb := b.isLt
  by_cases h : b.val = 0
  · obtain rfl : b = 0 := Fin.ext h
    exact ⟨p, List.mem_append_right _ hp, hi⟩
  · obtain rfl : b = 1 := Fin.ext (by show b.val = 1; omega)
    exact ⟨p, List.mem_append_left _ hp, hi⟩

omit [FloatOps F] in
theorem split_den (g : S512x16.Idx → Elt F .f32) :
    (denM.view.loc (c : Thread nD τ) ↦{fullShare} g : sProp 𝕄) ⊣⊢ iprop(ptE c 0 g ∗ ptE c 1 g ∗ ptE c 2 g) := by
  unfold ptE
  rw [show denM.view.set = Finset.univ from View.set_whole _]
  exact Ring.pointsTo_thirds _ _

end Whole

/-! ## The receive buffers -/

section Recv
omit [FloatOps F]

theorem cn_blocks (g : S3x2x512x512.Idx → Elt F .bf16) :
    (cnM.view.loc (c : Thread nD τ) ↦{fullShare} g : sProp 𝕄) = bigSep Finset.univ fun p : Fin 3 × Fin 2 => ptN c p.1 p.2 g := by
  unfold ptN
  refine Ring.pointsTo_blocks (ℓ := cnM.view.loc (c : Thread nD τ)) (fun p : Fin 3 × Fin 2 => (slN p.1 p.2).view.set) ?_ ?_ g
  · rintro ⟨j, b⟩ ⟨j', b'⟩ hne
    refine Finset.disjoint_left.mpr fun i hi hi' => hne ?_
    have h := (mem_slN j b i).mp hi; have h' := (mem_slN j' b' i).mp hi'
    exact Prod.ext (h.1.symm.trans h'.1) (h.2.symm.trans h'.2)
  · ext i
    refine ⟨fun _ => Finset.mem_univ _, fun _ => Finset.mem_biUnion.mpr ⟨(i 0, i 1), Finset.mem_univ _, (mem_slN _ _ i).mpr ⟨rfl, rfl⟩⟩⟩

theorem cd_blocks (g : S3x512x16.Idx → Elt F .f32) :
    (cdM.view.loc (c : Thread nD τ) ↦{fullShare} g : sProp 𝕄) = bigSep Finset.univ fun j : Fin 3 => ptD c j g := by
  unfold ptD
  refine Ring.pointsTo_blocks (ℓ := cdM.view.loc (c : Thread nD τ)) (fun j : Fin 3 => (slD j).view.set) ?_ ?_ g
  · intro j j' hne
    refine Finset.disjoint_left.mpr fun i hi hi' => hne ?_
    exact ((mem_slD j i).mp hi).symm.trans ((mem_slD j' i).mp hi')
  · ext i
    refine ⟨fun _ => Finset.mem_univ _, fun _ => Finset.mem_biUnion.mpr ⟨i 0, Finset.mem_univ _, (mem_slD _ i).mpr rfl⟩⟩

theorem cn_six (g : S3x2x512x512.Idx → Elt F .bf16) :
    (cnM.view.loc (c : Thread nD τ) ↦{fullShare} g : sProp 𝕄)
      = iprop(ptN c 0 0 g ∗ ptN c 1 0 g ∗ ptN c 2 0 g ∗ ptN c 0 1 g ∗ ptN c 1 1 g ∗ ptN c 2 1 g) := by
  rw [cn_blocks]
  exact bigSep_univ_eq_bigSepL [((0 : Fin 3), (0 : Fin 2)), (1, 0), (2, 0), (0, 1), (1, 1), (2, 1)] (by decide) (by decide) _

theorem cd_three (g : S3x512x16.Idx → Elt F .f32) :
    (cdM.view.loc (c : Thread nD τ) ↦{fullShare} g : sProp 𝕄) = iprop(ptD c 0 g ∗ ptD c 1 g ∗ ptD c 2 g) := by
  rw [cd_blocks, bigSep_fin3]

/-- Both receive buffers at any contents are the three families of slots handed out at the barrier. -/
theorem recv_slots (f : S3x2x512x512.Idx → Elt F .bf16) (g : S3x512x16.Idx → Elt F .f32) :
    iprop((cnM.view.loc (c : Thread nD τ) ↦{fullShare} f) ∗ (cdM.view.loc (c : Thread nD τ) ↦{fullShare} g : sProp 𝕄))
      ⊢ iprop(slots c 0 ∗ slots c 1 ∗ slots c 2) := by
  rw [cn_six, cd_three]
  iintro ⟨⟨H00, H10, H20, H01, H11, H21⟩, D0, D1, D2⟩
  unfold slots
  isplitl [H00 H01 D0]
  · isplitl [H00]; · iexists f; iexact H00
    isplitl [H01]; · iexists f; iexact H01
    iexists g; iexact D0
  isplitl [H10 H11 D1]
  · isplitl [H10]; · iexists f; iexact H10
    isplitl [H11]; · iexists f; iexact H11
    iexists g; iexact D1
  isplitl [H20]; · iexists f; iexact H20
  isplitl [H21]; · iexists f; iexact H21
  iexists g; iexact D2

end Recv

end Cert.KernelIdeal.Run

end
-- ==== Proof.BodyPre.lean ====
/-
# The parts of the body's run

The transfers' waits in pairs, the slots opened, and the buffers regained: what the run of the whole body is put together from.
-/
module

public import proofs.«01_k».proof.Proof.Split

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Z : Sent F) (K : Dev nD × CI → ℕ) (c : Dev nD) (I : Ins F)

section Groups
omit [FloatOps F]

/-- Both semaphores of a transfer at zero. -/
def zeros (t : T) : sProp 𝕄 := iprop(semVal (sndCell t c) 0 ∗ semVal (rcvCell t c) 0)
/-- What the two waits of a transfer need. -/
def atP (t : T) : sProp 𝕄 := iprop(atS c t ∗ atR c t)
/-- Nine facts, one per transfer, in program order. -/
def nine (Φ : T → sProp 𝕄) : sProp 𝕄 :=
  iprop(Φ (.inl (0, 0)) ∗ Φ (.inl (1, 0)) ∗ Φ (.inl (2, 0)) ∗ Φ (.inl (0, 1)) ∗ Φ (.inl (1, 1)) ∗ Φ (.inl (2, 1)) ∗ Φ (.inr 0) ∗ Φ (.inr 1) ∗ Φ (.inr 2))

theorem nine_open (Φ : T → sProp 𝕄) : nine Φ ⊢ iprop(Φ (.inl (0, 0)) ∗ Φ (.inl (1, 0)) ∗ Φ (.inl (2, 0)) ∗ Φ (.inl (0, 1)) ∗ Φ (.inl (1, 1)) ∗ Φ (.inl (2, 1)) ∗ Φ (.inr 0) ∗ Φ (.inr 1) ∗ Φ (.inr 2)) := BI.Entails.refl _
theorem slots_open (p : Dev nD) (j : Fin 3) : (slots (F := F) p j) ⊢ iprop((∃ f, ptN p j 0 f) ∗ (∃ f, ptN p j 1 f) ∗ ∃ f, ptD p j f) := BI.Entails.refl _

end Groups

/-- The two waits of a transfer, one after the other: the sent part comes back, the received part arrives, both cells close. -/
theorem step_pair (t : T) {s1 s2 : DmaSem sig} (h1 : s1 = sD t) (h2 : s2 = rD t) {κ κ' : Kind} {sp1 sp1' sp2 sp2' : Space} {a1 a1' a2 a2' : Shape} {e1 e1' e2 e2' : EltTy}
    {m1 : Memref sig .tc sp1' a1' e1'} {n1 : Memref sig κ sp1 a1 e1} {m2 : Memref sig .tc sp2' a2' e2'} {n2 : Memref sig κ' sp2 a2 e2}
    {x1 : m1.view.WordExact} {y1 : n1.view.WordExact} {x2 : m2.view.WordExact} {y2 : n2.view.WordExact}
    (hN1 : n1.view.dmaCredit = Nt t) (hN2 : n2.view.dmaCredit = Nt t)
    {α : Type} {Q : α → sProp 𝕄} {k : PUnit → Prog (TpuEff nD τ sig (Elt F) Λ₀ .tc) α} :
    iprop(records Z K ∗ ow c (owe c []) ∗ cred (tallyAt (sndCell t c) () (Nt t)) ∗ atP c t)
      ⊢ iprop((iprop(ow c (owe c []) ∗ zeros c t ∗ sndPay Z c t ∗ rcvPay Z c t)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s1 m1 n1 x1 y1) fun _ => .op (.waitDma2 s2 m2 n2 x2 y2) k) Q) := by
  iintro ⟨#HR, HO, Hc, Hat⟩ Hk
  unfold atP
  icases Hat with ⟨Ha, Hb⟩
  iapply (step_wait_snd Z K c t h1 hN1) $$ [HO Hc Ha]
  · isplitr; · iexact HR
    isplitl [HO]; · iexact HO
    isplitl [Hc]; · iexact Hc
    iexact Ha
  iintro ⟨HO, Hz1, Hp1⟩
  iapply (step_wait_rcv Z K c t h2 hN2) $$ [HO Hb]
  · isplitr; · iexact HR
    isplitl [HO]; · iexact HO
    iexact Hb
  iintro ⟨HO, Hz2, Hp2⟩
  iapply Hk
  isplitl [HO]; · iexact HO
  isplitl [Hz1 Hz2]
  · unfold zeros; isplitl [Hz1]; · iexact Hz1
    iexact Hz2
  isplitl [Hp1]; · iexact Hp1
  iexact Hp2

theorem credS (b : Fin 2) : (slS b).view.dmaCredit = NN := rfl
theorem credE : denM.view.dmaCredit = ND := rfl

/-- The pair of waits of a slab. -/
theorem pair_num (j : Fin 3) (b : Fin 2) {s1 s2 : DmaSem sig} (h1 : s1 = sD (.inl (j, b))) (h2 : s2 = rD (.inl (j, b)))
    {m1 n1 m2 n2 : Memref sig .tc .vmem S512x512 .bf16} (e1 : m1 = (slN j b)) (e2 : n1 = (slS b)) (e3 : m2 = (slS b)) (e4 : n2 = (slN j b))
    {x1 : m1.view.WordExact} {y1 : n1.view.WordExact} {x2 : m2.view.WordExact} {y2 : n2.view.WordExact}
    {α : Type} {Q : α → sProp 𝕄} {k : PUnit → Prog (TpuEff nD τ sig (Elt F) Λ₀ .tc) α} :
    iprop(records Z K ∗ ow c (owe c []) ∗ cred (tallyAt (sndCell (.inl (j, b)) c) () NN) ∗ atP c (.inl (j, b)))
      ⊢ iprop((iprop(ow c (owe c []) ∗ zeros c (.inl (j, b)) ∗ sndPay Z c (.inl (j, b)) ∗ rcvPay Z c (.inl (j, b)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s1 m1 n1 x1 y1) fun _ => .op (.waitDma2 s2 m2 n2 x2 y2) k) Q) := by
  subst e1 e2 e3 e4
  exact step_pair Z K c (.inl (j, b)) h1 h2 (m1 := slN j b) (n1 := slS b) (m2 := slS b) (n2 := slN j b) (credS b) (credN j b)

/-- The pair of waits of the denominators. -/
theorem pair_den (j : Fin 3) {s1 s2 : DmaSem sig} (h1 : s1 = sD (.inr j)) (h2 : s2 = rD (.inr j))
    {m1 n1 m2 n2 : Memref sig .tc .vmem S512x16 .f32} (e1 : m1 = (slD j)) (e2 : n1 = denM) (e3 : m2 = denM) (e4 : n2 = (slD j))
    {x1 : m1.view.WordExact} {y1 : n1.view.WordExact} {x2 : m2.view.WordExact} {y2 : n2.view.WordExact}
    {α : Type} {Q : α → sProp 𝕄} {k : PUnit → Prog (TpuEff nD τ sig (Elt F) Λ₀ .tc) α} :
    iprop(records Z K ∗ ow c (owe c []) ∗ cred (tallyAt (sndCell (.inr j) c) () ND) ∗ atP c (.inr j))
      ⊢ iprop((iprop(ow c (owe c []) ∗ zeros c (.inr j) ∗ sndPay Z c (.inr j) ∗ rcvPay Z c (.inr j))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s1 m1 n1 x1 y1) fun _ => .op (.waitDma2 s2 m2 n2 x2 y2) k) Q) := by
  subst e1 e2 e3 e4
  exact step_pair Z K c (.inr j) h1 h2 (m1 := slD j) (n1 := denM) (m2 := denM) (n2 := slD j) credE (credD j)

/-- After all waits the three source buffers and the two receive buffers are whole again. -/
theorem regain {gn : S2x512x512.Idx → Elt F .bf16} (hn : Z.num c = gn) {gd : S512x16.Idx → Elt F .f32} (hd : Z.den c = gd) :
    iprop((sndPay Z c (.inl (0, 0)) ∗ sndPay Z c (.inl (1, 0)) ∗ sndPay Z c (.inl (2, 0)) ∗ sndPay Z c (.inl (0, 1)) ∗ sndPay Z c (.inl (1, 1)) ∗ sndPay Z c (.inl (2, 1)) ∗ sndPay Z c (.inr 0) ∗ sndPay Z c (.inr 1) ∗ sndPay Z c (.inr 2))
        ∗ (rcvPay Z c (.inl (0, 0)) ∗ rcvPay Z c (.inl (1, 0)) ∗ rcvPay Z c (.inl (2, 0)) ∗ rcvPay Z c (.inl (0, 1)) ∗ rcvPay Z c (.inl (1, 1)) ∗ rcvPay Z c (.inl (2, 1)) ∗ rcvPay Z c (.inr 0) ∗ rcvPay Z c (.inr 1) ∗ rcvPay Z c (.inr 2)))
      ⊢ (iprop((sndM.view.loc (c : Thread nD τ) ↦{fullShare} gn) ∗ (denM.view.loc (c : Thread nD τ) ↦{fullShare} gd)
          ∗ (cnM.view.loc (c : Thread nD τ) ↦{fullShare} cnC Z c) ∗ (cdM.view.loc (c : Thread nD τ) ↦{fullShare} cdC Z c)) : sProp 𝕄) := by
  subst hn hd
  rw [cn_six, cd_three]
  unfold sndPay rcvPay
  iintro ⟨⟨S00, S10, S20, S01, S11, S21, E0, E1, E2⟩, N00, N10, N20, N01, N11, N21, D0, D1, D2⟩
  isplitl [S00 S10 S20 S01 S11 S21]
  · iapply (join_snd c (Z.num c))
    isplitl [S00 S10 S20]
    · isplitl [S00]; · iexact S00
      isplitl [S10]; · iexact S10
      iexact S20
    isplitl [S01]; · iexact S01
    isplitl [S11]; · iexact S11
    iexact S21
  isplitl [E0 E1 E2]
  · iapply (split_den c (Z.den c)).2
    isplitl [E0]; · iexact E0
    isplitl [E1]; · iexact E1
    iexact E2
  isplitl [N00 N10 N20 N01 N11 N21]
  · isplitl [N00]; · iexact N00
    isplitl [N10]; · iexact N10
    isplitl [N20]; · iexact N20
    isplitl [N01]; · iexact N01
    isplitl [N11]; · iexact N11
    iexact N21
  isplitl [D0]; · iexact D0
  isplitl [D1]; · iexact D1
  iexact D2

theorem den_pts (w : Fin 2 → Fin 8 → Fin 4 → Fin 2 → S64x1.Idx → Elt F .f32) (f : S512x16.Idx → Elt F .f32) (l) (hl : l = runD w 1 32 ++ runD w 0 32) :
    (denM.view.loc (c : Thread nD τ) ↦{fullShare} denM.view.writes (Elt F) f l) ⊢ (iprop(ptE c 0 (ofD w) ∗ ptE c 1 (ofD w) ∗ ptE c 2 (ofD w)) : sProp 𝕄) := by
  rw [den_whole w f l hl]
  exact (split_den c (ofD w)).1

theorem par_pts (w : Fin 2 → Fin 8 → Fin 4 → Fin 2 → S1x64x64.Idx → Elt F .f32) (f : S2x512x512.Idx → Elt F .f32) (l) (hl : l = runP w 1 32 ++ runP w 0 32) :
    (parM.view.loc (c : Thread nD τ) ↦{fullShare} parM.view.writes (Elt F) f l) ⊢ (parM.view.loc (c : Thread nD τ) ↦{fullShare} ofP w : sProp 𝕄) := by
  rw [par_whole w f l hl]

/-- The body at the buffers of the one grid point. -/
def prog : Prog (TpuEff nD τ sig (Elt F) Λ₀ .tc) PUnit :=
  cc0_body xM (Memref.isWhole_whole _) wqM (Memref.isWhole_whole _) kM (Memref.isWhole_whole _) vM (Memref.isWhole_whole _) woM (Memref.isWhole_whole _) oM (Memref.isWhole_whole _)
    parM (Memref.isWhole_whole _) denM (Memref.isWhole_whole _) sndM (Memref.isWhole_whole _) cnM (Memref.isWhole_whole _) cdM (Memref.isWhole_whole _) cc0_scratch5 cc0_scratch6 cc0_scratch7 cc0_scratch8

end Cert.KernelIdeal.Run

end
-- ==== Proof.Out.lean ====
/-
# The combination on one device

What a device makes of its own partial sums and the received ones: the context and the stored result.
-/
module

public import proofs.«01_k».proof.Proof.Vals

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What a device holds when every transfer has arrived: its own partial sums, the received ones, the output weights. -/
structure All (F : FTy → Type) where
  par : S2x512x512.Idx → Elt F .f32
  den : S512x16.Idx → Elt F .f32
  cn : S3x2x512x512.Idx → Elt F .bf16
  cd : S3x512x16.Idx → Elt F .f32
  wo : S512x768.Idx → Elt F .f32

variable (A : All F)

theorem inR (j : Fin 3) (b : Fin 2) (h : Fin 8) : ∀ a, (![j.val, b.val, 0, 64 * h.val] : Fin 4 → ℕ) a + S1x1x512x64.size a ≤ S3x2x512x512.size a := by
  revert j b h; decide

theorem inT (j : Fin 3) : ∀ a, (![j.val, 0, 0] : Fin 3 → ℕ) a + S1x512x16.size a ≤ S3x512x16.size a := by
  revert j; decide

theorem inC (b : Fin 2) : ∀ a, (![b.val, 0, 0] : Fin 3 → ℕ) a + S1x512x512.size a ≤ S2x512x512.size a := by
  revert b; decide

theorem slT (b : Fin 2) (h : Fin 8) : S512x16.Slices ![0, 8 * b.val + h.val] S512x1 := by
  revert b h; decide

/-- The received part of the row sums from distance `j + 1`. -/
def tR (j : Fin 3) : FVec F S512x16 .f32 :=
  shapeCast S512x16 (cdM.view.readAt (Elt F) (Rect.unit (s := S3x512x16) ![j.val, 0, 0] S1x512x16.size (inT j)).toLoadRect A.cd) shapeCasts_S1x512x16_S512x16

/-- The row sums over all devices. -/
def tD : FVec F S512x16 .f32 :=
  addf (addf (addf (denM.view.readAt (Elt F) (Rect.unit (s := S512x16) ![0, 0] S512x16.size inb_S512x16_S512x16_0_0).toLoadRect A.den) (tR A 0)) (tR A 1)) (tR A 2)

/-- The received part of one head's weighted values from distance `j + 1`. -/
def tN (b : Fin 2) (h : Fin 8) (j : Fin 3) : FVec F S512x64 .f32 :=
  extf .f32 (shapeCast S512x64 (cnM.view.readAt (Elt F) (Rect.unit (s := S3x2x512x512) ![j.val, b.val, 0, 64 * h.val] S1x1x512x64.size (inR j b h)).toLoadRect A.cn)
    shapeCasts_S1x1x512x64_S512x64) bitsLt_bf16_f32

/-- One head's weighted values over all devices, -/
def tP (b : Fin 2) (h : Fin 8) : FVec F S512x64 .f32 :=
  addf (addf (addf (shapeCast S512x64 (parM.view.readAt (Elt F) (Rect.unit (s := S2x512x512) ![b.val, 0, 64 * h.val] S1x512x64.size (inKV b h)).toLoadRect A.par)
    shapeCasts_S1x512x64_S512x64) (tN A b h 0)) (tN A b h 1)) (tN A b h 2)

/-- over its row sums, rounded: the head's columns of the context. -/
def cB (b : Fin 2) (h : Fin 8) : FVec F S1x512x64 .bf16 :=
  shapeCast S1x512x64 (truncf .bf16 (divf (tP A b h) (broadcastTo S512x64 (extractStridedSlice S512x1 ![0, 8 * b.val + h.val] (tD A) (slT b h)) broadcasts_S512x1_S512x64)) bitsLt_bf16_f32)
    shapeCasts_S512x64_S1x512x64

/-- The stores of the first `n` heads of batch `b`, the last one first. -/
def runC (w : Fin 2 → Fin 8 → S1x512x64.Idx → Elt F .bf16) (b : Fin 2) : ℕ → List (View.Piece (Elt F) S2x512x512 .bf16)
  | 0 => []
  | n + 1 => ⟨Rect.unit (s := S2x512x512) ![b.val, 0, 64 * (Fin.ofNat 8 n).val] S1x512x64.size (inKV b (Fin.ofNat 8 n)), w b (Fin.ofNat 8 n)⟩ :: runC w b n

/-- The context of one batch. -/
def slabC (w : Fin 2 → Fin 8 → S1x512x64.Idx → Elt F .bf16) (b : Fin 2) : S1x512x512.Idx → Elt F .bf16 := fun y =>
  w b ⟨(y 2).val / 64, by have h : (y 2).val < 512 := (y 2).isLt; omega⟩ (ix3 (0 : Fin 1) (y 1 : Fin 512) (⟨(y 2).val % 64, Nat.mod_lt _ (by decide)⟩ : Fin 64))

/-- The context of both. -/
def ofC (w : Fin 2 → Fin 8 → S1x512x64.Idx → Elt F .bf16) : S2x512x512.Idx → Elt F .bf16 := fun i => slabC w (i 0) (ix3 (0 : Fin 1) (i 1 : Fin 512) (i 2 : Fin 512))

theorem runC_agree (w : Fin 2 → Fin 8 → S1x512x64.Idx → Elt F .bf16) (b : Fin 2) :
    ∀ n, ∀ p ∈ runC w b n, ∀ y : p.1.shape.Idx, p.2 y = ofC w (p.1.emb y)
  | 0, p, hp => by simp [runC] at hp
  | n + 1, p, hp => by
    rcases List.mem_cons.mp hp with rfl | hp
    · intro y
      have h0 : (y 0).val < 1 := (y 0).isLt
      have h2 : (y 2).val < 64 := (y 2).isLt
      have hn := (Fin.ofNat 8 n).isLt
      have e0 := unit_emb (inKV b (Fin.ofNat 8 n)) y 0
      have e1 := unit_emb (inKV b (Fin.ofNat 8 n)) y 1
      have e2 := unit_emb (inKV b (Fin.ofNat 8 n)) y 2
      generalize (Rect.unit (s := S2x512x512) ![b.val, 0, 64 * (Fin.ofNat 8 n).val] S1x512x64.size (inKV b (Fin.ofNat 8 n))).emb y = i at *
      replace e0 : (i 0).val = b.val + (y 0).val := e0
      replace e1 : (i 1).val = 0 + (y 1).val := e1
      replace e2 : (i 2).val = 64 * (Fin.ofNat 8 n).val + (y 2).val := e2
      have a0 : (i 0 : Fin 2) = b := Fin.ext (by omega)
      have a1 : (⟨(i 2).val / 64, by have h : (i 2).val < 512 := (i 2).isLt; omega⟩ : Fin 8) = Fin.ofNat 8 n := Fin.ext (by show (i 2).val / 64 = _; omega)
      have a2 : (ix3 (0 : Fin 1) (i 1 : Fin 512) (⟨(i 2).val % 64, Nat.mod_lt _ (by decide)⟩ : Fin 64)) = y := by
        funext a; apply Fin.ext
        fin_cases a
        · show 0 = (y 0).val; omega
        · show (i 1).val = (y 1).val; omega
        · show (i 2).val % 64 = (y 2).val; omega
      show w b (Fin.ofNat 8 n) y = w (i 0) ⟨(i 2).val / 64, _⟩ (ix3 (0 : Fin 1) (i 1 : Fin 512) (⟨(i 2).val % 64, _⟩ : Fin 64))
      rw [a0, a1]; exact (congrArg (w b (Fin.ofNat 8 n)) a2).symm
    exact runC_agree w b n p hp

theorem runC_mem (w : Fin 2 → Fin 8 → S1x512x64.Idx → Elt F .bf16) (b : Fin 2) (m : Fin 8) :
    ∀ n, m.val < n → ∃ p ∈ runC w b n, p.1.set = (Rect.unit (s := S2x512x512) ![b.val, 0, 64 * m.val] S1x512x64.size (inKV b m)).set
  | 0, h => absurd h (Nat.not_lt_zero _)
  | n + 1, h => by
    by_cases e : m.val = n
    · have hm : Fin.ofNat 8 n = m := by subst e; exact Fin.ext (Nat.mod_eq_of_lt m.isLt)
      subst hm
      exact ⟨_, List.mem_cons_self, rfl⟩
    · obtain ⟨p, hp, hq⟩ := runC_mem w b m n (by omega)
      exact ⟨p, List.mem_cons_of_mem _ hp, hq⟩

theorem runC_cover (w : Fin 2 → Fin 8 → S1x512x64.Idx → Elt F .bf16) (b : Fin 2) (i : S2x512x512.Idx) (hi : (i 0).val = b.val) :
    ∃ p ∈ runC w b 8, i ∈ p.1.set := by
  have h1 : (i 1).val < 512 := (i 1).isLt
  have h2 : (i 2).val < 512 := (i 2).isLt
  obtain ⟨p, hp, hq⟩ := runC_mem w b ⟨(i 2).val / 64, by omega⟩ 8 (by show (i 2).val / 64 < 8; omega)
  refine ⟨p, hp, ?_⟩
  rw [hq, Rect.mem_set_unit]
  intro a
  fin_cases a
  · show b.val ≤ (i 0).val ∧ (i 0).val < b.val + 1; omega
  · show 0 ≤ (i 1).val ∧ (i 1).val < 0 + 512; omega
  · show 64 * ((i 2).val / 64) ≤ (i 2).val ∧ (i 2).val < 64 * ((i 2).val / 64) + 64; omega

/-- A load of one batch's context after its eight stores. -/
theorem slab_read (w : Fin 2 → Fin 8 → S1x512x64.Idx → Elt F .bf16) (b : Fin 2) (f : S2x512x512.Idx → Elt F .bf16) (l l' : List (View.Piece (Elt F) S2x512x512 .bf16))
    (hl : l = runC w b 8 ++ l') (hl' : ∀ p ∈ l', ∀ y : p.1.shape.Idx, p.2 y = ofC w (p.1.emb y)) :
    sndM.view.readAt (Elt F) (Rect.unit (s := S2x512x512) ![b.val, 0, 0] S1x512x512.size (inC b)).toLoadRect (sndM.view.writes (Elt F) f l) = slabC w b := by
  subst hl
  funext y
  have h0 : (y 0).val < 1 := (y 0).isLt
  have e0 : ((Rect.unit (s := S2x512x512) ![b.val, 0, 0] S1x512x512.size (inC b)).emb y 0).val = b.val + (y 0).val := unit_emb (inC b) y 0
  have e1 : ((Rect.unit (s := S2x512x512) ![b.val, 0, 0] S1x512x512.size (inC b)).emb y 1).val = 0 + (y 1).val := unit_emb (inC b) y 1
  have e2 : ((Rect.unit (s := S2x512x512) ![b.val, 0, 0] S1x512x512.size (inC b)).emb y 2).val = 0 + (y 2).val := unit_emb (inC b) y 2
  rw [View.readAt_apply]
  show sndM.view.read (Elt F) _ ((Rect.unit (s := S2x512x512) ![b.val, 0, 0] S1x512x512.size (inC b)).emb y) = _
  generalize (Rect.unit (s := S2x512x512) ![b.val, 0, 0] S1x512x512.size (inC b)).emb y = i at *
  obtain ⟨p, hp, hi⟩ := runC_cover w b i (by omega)
  rw [View.read_writes_apply_of_pieces sndM.view f (ofC w) _ (fun p hp => (List.mem_append.mp hp).elim (runC_agree w b 8 p) (hl' p)) i ⟨p, List.mem_append_left _ hp, hi⟩]
  unfold ofC
  have a0 : (i 0 : Fin 2) = b := Fin.ext (by omega)
  have a1 : (ix3 (0 : Fin 1) (i 1 : Fin 512) (i 2 : Fin 512)) = y := by
    funext a; apply Fin.ext
    fin_cases a
    · show 0 = (y 0).val; omega
    · show (i 1).val = (y 1).val; omega
    · show (i 2).val = (y 2).val; omega
  rw [a0]; exact congrArg (slabC w b) a1

/-- One batch of the result from its context. -/
def oB (wo : S512x768.Idx → Elt F .f32) (z : S1x512x512.Idx → Elt F .bf16) : FVec F S1x512x768 .f32 :=
  shapeCast S1x512x768 (matmul dot_S512x512_S512x768_S512x768_1_0_0_1_n_n none (shapeCast S512x512 z shapeCasts_S1x512x512_S512x512)
    (truncf .bf16 (shapeCast S512x768 (woM.view.readAt (Elt F) (Rect.unit (s := S512x768) ![0, 0] S512x768.size inb_S512x768_S512x768_0_0).toLoadRect wo) shapeCasts_S512x768_S512x768) bitsLt_bf16_f32)
    (constant S512x768 .f32 0x00000000#32)) shapeCasts_S512x768_S1x512x768

/-- The whole result of a device. -/
def outC : S2x512x768.Idx → Elt F .f32 := fun i => oB A.wo (slabC (cB A) (i 0)) (ix3 (0 : Fin 1) (i 1 : Fin 512) (i 2 : Fin 768))

/-- Stores that agree with an array and cover it leave it. -/
theorem o_whole (o H : S2x512x768.Idx → Elt F .f32) (l : List (View.Piece (Elt F) S2x512x768 .f32)) (ha : ∀ p ∈ l, ∀ y : p.1.shape.Idx, p.2 y = H (p.1.emb y))
    (hc : ∀ i, ∃ p ∈ l, i ∈ p.1.set) : oM.view.writes (Elt F) o l = H :=
  funext fun i => View.read_writes_apply_of_pieces oM.view o H l ha i (hc i)

/-- Two stores, one per batch, leave the array of both. -/
theorem two_whole (G : Fin 2 → S1x512x768.Idx → Elt F .f32) (o : S2x512x768.Idx → Elt F .f32) :
    oM.view.writes (Elt F) o [⟨Rect.unit (s := S2x512x768) ![(1 : Fin 2).val, 0, 0] S1x512x768.size (inX 1), G 1⟩,
        ⟨Rect.unit (s := S2x512x768) ![(0 : Fin 2).val, 0, 0] S1x512x768.size (inX 0), G 0⟩]
      = fun i => G (i 0) (ix3 (0 : Fin 1) (i 1 : Fin 512) (i 2 : Fin 768)) := by
  have key : ∀ (b : Fin 2) (y : S1x512x768.Idx), G b y
      = (fun i : S2x512x768.Idx => G (i 0) (ix3 (0 : Fin 1) (i 1 : Fin 512) (i 2 : Fin 768))) ((Rect.unit (s := S2x512x768) ![b.val, 0, 0] S1x512x768.size (inX b)).emb y) := by
    intro b y
    have h0 : (y 0).val < 1 := (y 0).isLt
    have e0 := unit_emb (s := S2x512x768) (off := ![b.val, 0, 0]) (size := S1x512x768.size) (inX b) y 0
    have e1 := unit_emb (s := S2x512x768) (off := ![b.val, 0, 0]) (size := S1x512x768.size) (inX b) y 1
    have e2 := unit_emb (s := S2x512x768) (off := ![b.val, 0, 0]) (size := S1x512x768.size) (inX b) y 2
    generalize (Rect.unit (s := S2x512x768) ![b.val, 0, 0] S1x512x768.size (inX b)).emb y = i at *
    replace e0 : (i 0).val = b.val + (y 0).val := e0
    replace e1 : (i 1).val = 0 + (y 1).val := e1
    replace e2 : (i 2).val = 0 + (y 2).val := e2
    have a0 : (i 0 : Fin 2) = b := Fin.ext (by omega)
    have a1 : (ix3 (0 : Fin 1) (i 1 : Fin 512) (i 2 : Fin 768)) = y := by
      funext a; apply Fin.ext
      fin_cases a
      · show 0 = (y 0).val; omega
      · show (i 1).val = (y 1).val; omega
      · show (i 2).val = (y 2).val; omega
    show _ = G (i 0) _
    rw [a0]; exact (congrArg (G b) a1).symm
  have mem : ∀ (b : Fin 2) (i : S2x512x768.Idx), (i 0).val = b.val → i ∈ (Rect.unit (s := S2x512x768) ![b.val, 0, 0] S1x512x768.size (inX b)).set := fun b i hb => by
    have h1 : (i 1).val < 512 := (i 1).isLt
    have h2 : (i 2).val < 768 := (i 2).isLt
    rw [Rect.mem_set_unit]
    intro a
    fin_cases a
    · show b.val ≤ (i 0).val ∧ (i 0).val < b.val + 1; omega
    · show 0 ≤ (i 1).val ∧ (i 1).val < 0 + 512; omega
    · show 0 ≤ (i 2).val ∧ (i 2).val < 0 + 768; omega
  generalize (fun i : S2x512x768.Idx => G (i 0) (ix3 (0 : Fin 1) (i 1 : Fin 512) (i 2 : Fin 768))) = H at *
  refine o_whole o H _ (fun p hp => ?_) (fun i => ?_)
  · rcases List.mem_cons.mp hp with rfl | hp
    · exact key 1
    rcases List.mem_cons.mp hp with rfl | hp
    · exact key 0
    · cases hp
  have h0 : (i 0).val < 2 := (i 0).isLt
  by_cases h : (i 0).val = 0
  · exact ⟨_, List.mem_cons_of_mem _ List.mem_cons_self, mem 0 i h⟩
  · exact ⟨_, List.mem_cons_self, mem 1 i (by show (i 0).val = 1; omega)⟩

/-- The two stores of the body leave the result. -/
theorem out_whole (o : S2x512x768.Idx → Elt F .f32) (l)
    (hl : l = [⟨Rect.unit (s := S2x512x768) ![(1 : Fin 2).val, 0, 0] S1x512x768.size (inX 1), oB A.wo (sndM.view.readCov (runC (cB A) 1 8 ++ runC (cB A) 0 8)
          (Rect.unit (s := S2x512x512) ![(1 : Fin 2).val, 0, 0] S1x512x512.size (inC 1)).toLoadRect)⟩,
        ⟨Rect.unit (s := S2x512x768) ![(0 : Fin 2).val, 0, 0] S1x512x768.size (inX 0), oB A.wo (sndM.view.readCov (runC (cB A) 0 8)
          (Rect.unit (s := S2x512x512) ![(0 : Fin 2).val, 0, 0] S1x512x512.size (inC 0)).toLoadRect)⟩]) :
    oM.view.writes (Elt F) o l = outC A := by
  unfold View.readCov at hl
  rw [hl, slab_read (cB A) 1 _ _ (runC (cB A) 0 8) rfl (runC_agree _ 0 8), slab_read (cB A) 0 _ _ [] (List.append_nil _).symm (fun p hp => by cases hp)]
  exact two_whole (fun b => oB A.wo (slabC (cB A) b)) o

end Cert.KernelIdeal.Run

end
-- ==== Proof.Body.lean ====
/-
# The body of the kernel

One device's run of the kernel's body, from its resources at the start to those at the end.
-/
module

public import proofs.«01_k».proof.Proof.BodyPre
public import proofs.«01_k».proof.Proof.Out

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Z : Sent F) (K : Dev nD × CI → ℕ) (c : Dev nD)
variable (I : Ins F)

/-! # The run of the whole body on one device

The three entry signals hand this device's receive slots to their senders, the entry wait hands the other devices' slots to this one; then
the partial sums of both batches are computed and stored, each batch's rounded numerators being lent to three transfers as soon as they are
complete, the denominators likewise; the eighteen waits bring the lent buffers back and the others' parts in, and the rest combines. -/

/-- The five argument blocks at the staging buffers. -/
def inputs : sProp 𝕄 :=
  iprop((xM.view.loc (c : Thread nD τ) ↦{fullShare} I.x) ∗ (wqM.view.loc (c : Thread nD τ) ↦{fullShare} I.wq) ∗ (kM.view.loc (c : Thread nD τ) ↦{fullShare} I.k)
      ∗ (vM.view.loc (c : Thread nD τ) ↦{fullShare} I.v) ∗ (woM.view.loc (c : Thread nD τ) ↦{fullShare} I.wo))

/-- What the device holds when every transfer has arrived. -/
def allOf : All F := ⟨ofP (nP I), ofD (dP I), cnC Z c, cdC Z c, I.wo⟩

theorem out_pts (A : All F) (o : S2x512x768.Idx → Elt F .f32) (l)
    (hl : l = [⟨Rect.unit (s := S2x512x768) ![(1 : Fin 2).val, 0, 0] S1x512x768.size (inX 1), oB A.wo (sndM.view.readCov (runC (cB A) 1 8 ++ runC (cB A) 0 8)
          (Rect.unit (s := S2x512x512) ![(1 : Fin 2).val, 0, 0] S1x512x512.size (inC 1)).toLoadRect)⟩,
        ⟨Rect.unit (s := S2x512x768) ![(0 : Fin 2).val, 0, 0] S1x512x768.size (inX 0), oB A.wo (sndM.view.readCov (runC (cB A) 0 8)
          (Rect.unit (s := S2x512x512) ![(0 : Fin 2).val, 0, 0] S1x512x512.size (inC 0)).toLoadRect)⟩]) :
    (oM.view.loc (c : Thread nD τ) ↦{fullShare} oM.view.writes (Elt F) o l) ⊢ (oM.view.loc (c : Thread nD τ) ↦{fullShare} outC A : sProp 𝕄) := by
  rw [out_whole A o l hl]

/-- What is held when the body ends. -/
def done : sProp 𝕄 :=
  iprop((semVal (barCell c) 0 ∗ nine (zeros (F := F) c)) ∗ ow c (owe c []) ∗ inputs c I ∗ (oM.view.loc (c : Thread nD τ) ↦{fullShare} outC (allOf Z c I))
      ∗ (∃ f, parM.view.loc (c : Thread nD τ) ↦{fullShare} f) ∗ (∃ f, denM.view.loc (c : Thread nD τ) ↦{fullShare} f) ∗ (∃ f, sndM.view.loc (c : Thread nD τ) ↦{fullShare} f)
      ∗ (∃ f, cnM.view.loc (c : Thread nD τ) ↦{fullShare} f) ∗ (∃ f, cdM.view.loc (c : Thread nD τ) ↦{fullShare} f))

set_option maxHeartbeats 4000000 in
theorem body_run (hZn : Z.num c = ofP (sP I)) (hZd : Z.den c = ofD (dP I))
   (o : S2x512x768.Idx → Elt F .f32) (f6 : S2x512x512.Idx → Elt F .f32) (f7 : S512x16.Idx → Elt F .f32) (f8 : S2x512x512.Idx → Elt F .bf16) :
    iprop(□ records Z K ∗ □ levAts L lv ∗ nine (xfer c) ∗ nine (atP c) ∗ (dutyTok ER (barCell (nx 0 c)) 0 0 ∗ dutyTok ER (barCell (nx 1 c)) 0 1 ∗ dutyTok ER (barCell (nx 2 c)) 0 2)
       ∗ (slots c 0 ∗ slots c 1 ∗ slots c 2) ∗ ow c (O₀ c) ∗ cred (tallyAt (barCell c) () 3) ∗ atPos ER (barCell c) 0 ∅ 0
      ∗ inputs c I ∗ (oM.view.loc (c : Thread nD τ) ↦{fullShare} o)
      ∗ (parM.view.loc (c : Thread nD τ) ↦{fullShare} f6) ∗ (denM.view.loc (c : Thread nD τ) ↦{fullShare} f7) ∗ (sndM.view.loc (c : Thread nD τ) ↦{fullShare} f8))
      ⊢ wp frame (wpE (defs₀ (F := F)) 𝒱₀ (c : Thread nD τ) none) Set.univ prog (fun _ => done Z c I) := by
  iintro ⟨#Hrec, #Hlev, HX, HW, ⟨Ht0, Ht1, Ht2⟩, ⟨Hs0, Hs1, Hs2⟩, HO, Hcb, Hab, Hin, Ho, H6, H7, H8⟩
  unfold inputs
  icases Hin with ⟨Hx, Hwq, Hk, Hv, Hwo⟩
  unfold prog
  rw [cc0_body_eq_skeleton]; unfold cc0_body_skel
  rw [k0_part99_eq_skeleton]; unfold k0_part99_skel
  rw [k0_part1_eq_skeleton]; unfold k0_part1_skel
  simp -proj only [semSignalWord, semWaitWord, Prog.lift, Prog.bind_op, Prog.bind_ret, Prog.pure_eq_ret, wp_deviceId, Prog.bind_assoc]
  iapply (step_signal Z K c 0 [1, 2] _ (dev1_eq c) _ rfl) $$ [HO Ht0 Hs2]
  · isplitr; · iexact Hrec
    isplitl [HO]; · iexact HO
    isplitl [Ht0]; · iexact Ht0
    iexact Hs2
  iintro HO
  iapply (step_signal Z K c 1 [2] _ (dev2_eq c) _ rfl) $$ [HO Ht1 Hs1]
  · isplitr; · iexact Hrec
    isplitl [HO]; · iexact HO
    isplitl [Ht1]; · iexact Ht1
    iexact Hs1
  iintro HO
  iapply (step_signal Z K c 2 [] _ (dev3_eq c) _ rfl) $$ [HO Ht2 Hs0]
  · isplitr; · iexact Hrec
    isplitl [HO]; · iexact HO
    isplitl [Ht2]; · iexact Ht2
    iexact Hs0
  iintro HO
  iapply (step_barrier Z K c _ rfl) $$ [HO Hcb Hab]
  · isplitr; · iexact Hrec
    isplitr; · iexact Hlev
    isplitl [HO]; · iexact HO
    isplitl [Hcb]; · iexact Hcb
    iexact Hab
  iintro ⟨HO, Hzb, Hs2, Hs1, Hs0⟩
  set_option sl_exec.stopBefore "k0_part40" in sl_exec_parts
  rw [k0_part40_eq_skeleton]; unfold k0_part40_skel
  simp -proj only [Prog.lift, Prog.bind_op, Prog.bind_ret, Prog.pure_eq_ret, wp_deviceId, Prog.bind_assoc]
  set_option sl_exec.maxSteps 8 in sl_exec
  ihave H8 := (split0 c (sP I) _ _ (by rfl)) $$ H8
  icases H8 with ⟨⟨P00, P10, P20⟩, ⟨%g8, H8⟩⟩
  ihave HX := (nine_open (xfer (F := F) c)) $$ HX
  icases HX with ⟨X00, X10, X20, X01, X11, X21, X0, X1, X2⟩
  ihave Hs0 := (slots_open (F := F) (nx 0 c) 0) $$ Hs0
  icases Hs0 with ⟨N00, N01, D0⟩
  ihave Hs1 := (slots_open (F := F) (nx 1 c) 1) $$ Hs1
  icases Hs1 with ⟨N10, N11, D1⟩
  ihave Hs2 := (slots_open (F := F) (nx 2 c) 2) $$ Hs2
  icases Hs2 with ⟨N20, N21, D2⟩
  iapply (step_send_num Z K c 0 0 [.inl (1, 0), .inl (2, 0), .inl (0, 1), .inl (1, 1), .inl (2, 1), .inr 0, .inr 1, .inr 2] _ (dev4_eq c) rfl rfl rfl rfl) $$ [HO X00 P00 N00]
  · isplitr; · iexact Hrec
    isplitl [HO]; · iexact HO
    isplitl [X00]; · iexact X00
    isplitl [P00]; · rw [hZn]; iexact P00
    iexact N00
  iintro ⟨HO, C00⟩
  rw [k0_part41_eq_skeleton]; unfold k0_part41_skel
  simp -proj only [Prog.lift, Prog.bind_op, Prog.bind_ret, Prog.pure_eq_ret, wp_deviceId, Prog.bind_assoc]
  iapply (step_send_num Z K c 1 0 [.inl (2, 0), .inl (0, 1), .inl (1, 1), .inl (2, 1), .inr 0, .inr 1, .inr 2] _ (dev5_eq c) rfl rfl rfl rfl) $$ [HO X10 P10 N10]
  · isplitr; · iexact Hrec
    isplitl [HO]; · iexact HO
    isplitl [X10]; · iexact X10
    isplitl [P10]; · rw [hZn]; iexact P10
    iexact N10
  iintro ⟨HO, C10⟩
  iapply (step_send_num Z K c 2 0 [.inl (0, 1), .inl (1, 1), .inl (2, 1), .inr 0, .inr 1, .inr 2] _ (dev6_eq c) rfl rfl rfl rfl) $$ [HO X20 P20 N20]
  · isplitr; · iexact Hrec
    isplitl [HO]; · iexact HO
    isplitl [X20]; · iexact X20
    isplitl [P20]; · rw [hZn]; iexact P20
    iexact N20
  iintro ⟨HO, C20⟩
  rw [k0_part100_eq_skeleton]; unfold k0_part100_skel
  simp -proj only [Prog.lift, Prog.bind_op, Prog.bind_ret, Prog.pure_eq_ret, wp_deviceId, Prog.bind_assoc]
  set_option sl_exec.stopBefore "k0_part80" in sl_exec_parts
  rw [k0_part80_eq_skeleton]; unfold k0_part80_skel
  simp -proj only [Prog.lift, Prog.bind_op, Prog.bind_ret, Prog.pure_eq_ret, wp_deviceId, Prog.bind_assoc]
  set_option sl_exec.maxSteps 8 in sl_exec
  ihave H8 := (split1 c (sP I) _ _ (by rfl)) $$ H8
  icases H8 with ⟨P01, P11, P21⟩
  iapply (step_send_num Z K c 0 1 [.inl (1, 1), .inl (2, 1), .inr 0, .inr 1, .inr 2] _ (dev7_eq c) rfl rfl rfl rfl) $$ [HO X01 P01 N01]
  · isplitr; · iexact Hrec
    isplitl [HO]; · iexact HO
    isplitl [X01]; · iexact X01
    isplitl [P01]; · rw [hZn]; iexact P01
    iexact N01
  iintro ⟨HO, C01⟩
  rw [k0_part81_eq_skeleton]; unfold k0_part81_skel
  simp -proj only [Prog.lift, Prog.bind_op, Prog.bind_ret, Prog.pure_eq_ret, wp_deviceId, Prog.bind_assoc]
  iapply (step_send_num Z K c 1 1 [.inl (2, 1), .inr 0, .inr 1, .inr 2] _ (dev8_eq c) rfl rfl rfl rfl) $$ [HO X11 P11 N11]
  · isplitr; · iexact Hrec
    isplitl [HO]; · iexact HO
    isplitl [X11]; · iexact X11
    isplitl [P11]; · rw [hZn]; iexact P11
    iexact N11
  iintro ⟨HO, C11⟩
  iapply (step_send_num Z K c 2 1 [.inr 0, .inr 1, .inr 2] _ (dev9_eq c) rfl rfl rfl rfl) $$ [HO X21 P21 N21]
  · isplitr; · iexact Hrec
    isplitl [HO]; · iexact HO
    isplitl [X21]; · iexact X21
    isplitl [P21]; · rw [hZn]; iexact P21
    iexact N21
  iintro ⟨HO, C21⟩
  ihave H7 := (den_pts c (dP I) _ _ (by rfl)) $$ H7
  icases H7 with ⟨E0, E1, E2⟩
  rw [k0_part82_eq_skeleton]; unfold k0_part82_skel
  simp -proj only [Prog.lift, Prog.bind_op, Prog.bind_ret, Prog.pure_eq_ret, wp_deviceId, Prog.bind_assoc]
  iapply (step_send_den Z K c 0 [.inr 1, .inr 2] _ (dev10_eq c) rfl rfl rfl) $$ [HO X0 E0 D0]
  · isplitr; · iexact Hrec
    isplitl [HO]; · iexact HO
    isplitl [X0]; · iexact X0
    isplitl [E0]; · rw [hZd]; iexact E0
    iexact D0
  iintro ⟨HO, C0⟩
  iapply (step_send_den Z K c 1 [.inr 2] _ (dev11_eq c) rfl rfl rfl) $$ [HO X1 E1 D1]
  · isplitr; · iexact Hrec
    isplitl [HO]; · iexact HO
    isplitl [X1]; · iexact X1
    isplitl [E1]; · rw [hZd]; iexact E1
    iexact D1
  iintro ⟨HO, C1⟩
  iapply (step_send_den Z K c 2 [] _ (dev12_eq c) rfl rfl rfl) $$ [HO X2 E2 D2]
  · isplitr; · iexact Hrec
    isplitl [HO]; · iexact HO
    isplitl [X2]; · iexact X2
    isplitl [E2]; · rw [hZd]; iexact E2
    iexact D2
  iintro ⟨HO, C2⟩
  rw [k0_part83_eq_skeleton, k0_part84_eq_skeleton, k0_part85_eq_skeleton, k0_part86_eq_skeleton, k0_part87_eq_skeleton, k0_part88_eq_skeleton]; unfold k0_part83_skel k0_part84_skel k0_part85_skel k0_part86_skel k0_part87_skel k0_part88_skel
  simp -proj only [Prog.lift, Prog.bind_op, Prog.bind_ret, Prog.pure_eq_ret, wp_deviceId, Prog.bind_assoc]
  ihave HW := (nine_open (atP (F := F) c)) $$ HW
  icases HW with ⟨W00, W10, W20, W01, W11, W21, W0, W1, W2⟩
  iapply (pair_num Z K c 0 0 rfl rfl rfl rfl rfl rfl) $$ [HO C00 W00]
  · isplitr; · iexact Hrec
    isplitl [HO]; · iexact HO
    isplitl [C00]; · iexact C00
    iexact W00
  iintro ⟨HO, Z00, S00, R00⟩
  iapply (pair_num Z K c 1 0 rfl rfl rfl rfl rfl rfl) $$ [HO C10 W10]
  · isplitr; · iexact Hrec
    isplitl [HO]; · iexact HO
    isplitl [C10]; · iexact C10
    iexact W10
  iintro ⟨HO, Z10, S10, R10⟩
  iapply (pair_num Z K c 2 0 rfl rfl rfl rfl rfl rfl) $$ [HO C20 W20]
  · isplitr; · iexact Hrec
    isplitl [HO]; · iexact HO
    isplitl [C20]; · iexact C20
    iexact W20
  iintro ⟨HO, Z20, S20, R20⟩
  iapply (pair_num Z K c 0 1 rfl rfl rfl rfl rfl rfl) $$ [HO C01 W01]
  · isplitr; · iexact Hrec
    isplitl [HO]; · iexact HO
    isplitl [C01]; · iexact C01
    iexact W01
  iintro ⟨HO, Z01, S01, R01⟩
  iapply (pair_num Z K c 1 1 rfl rfl rfl rfl rfl rfl) $$ [HO C11 W11]
  · isplitr; · iexact Hrec
    isplitl [HO]; · iexact HO
    isplitl [C11]; · iexact C11
    iexact W11
  iintro ⟨HO, Z11, S11, R11⟩
  iapply (pair_num Z K c 2 1 rfl rfl rfl rfl rfl rfl) $$ [HO C21 W21]
  · isplitr; · iexact Hrec
    isplitl [HO]; · iexact HO
    isplitl [C21]; · iexact C21
    iexact W21
  iintro ⟨HO, Z21, S21, R21⟩
  iapply (pair_den Z K c 0 rfl rfl rfl rfl rfl rfl) $$ [HO C0 W0]
  · isplitr; · iexact Hrec
    isplitl [HO]; · iexact HO
    isplitl [C0]; · iexact C0
    iexact W0
  iintro ⟨HO, Z0, S0, R0⟩
  iapply (pair_den Z K c 1 rfl rfl rfl rfl rfl rfl) $$ [HO C1 W1]
  · isplitr; · iexact Hrec
    isplitl [HO]; · iexact HO
    isplitl [C1]; · iexact C1
    iexact W1
  iintro ⟨HO, Z1, S1, R1⟩
  iapply (pair_den Z K c 2 rfl rfl rfl rfl rfl rfl) $$ [HO C2 W2]
  · isplitr; · iexact Hrec
    isplitl [HO]; · iexact HO
    isplitl [C2]; · iexact C2
    iexact W2
  iintro ⟨HO, Z2, S2, R2⟩
  ihave Hbk := (regain Z c hZn hZd) $$ [S00 S10 S20 S01 S11 S21 S0 S1 S2 R00 R10 R20 R01 R11 R21 R0 R1 R2]
  · isplitl [S00 S10 S20 S01 S11 S21 S0 S1 S2]
    · isplitl [S00]; · iexact S00
      isplitl [S10]; · iexact S10
      isplitl [S20]; · iexact S20
      isplitl [S01]; · iexact S01
      isplitl [S11]; · iexact S11
      isplitl [S21]; · iexact S21
      isplitl [S0]; · iexact S0
      isplitl [S1]; · iexact S1
      iexact S2
    isplitl [R00]; · iexact R00
    isplitl [R10]; · iexact R10
    isplitl [R20]; · iexact R20
    isplitl [R01]; · iexact R01
    isplitl [R11]; · iexact R11
    isplitl [R21]; · iexact R21
    isplitl [R0]; · iexact R0
    isplitl [R1]; · iexact R1
    iexact R2
  icases Hbk with ⟨H8, H7, H9, H10⟩
  ihave H6 := (par_pts c (nP I) _ _ (by rfl)) $$ H6
  sl_exec_parts
  ihave Ho := (out_pts c (allOf Z c I) o _ (by rfl)) $$ Ho
  rw [wp_ret]
  imodintro
  unfold done inputs nine
  isplitl [Hzb Z00 Z10 Z20 Z01 Z11 Z21 Z0 Z1 Z2]
  · isplitl [Hzb]; · iexact Hzb
    isplitl [Z00]; · iexact Z00
    isplitl [Z10]; · iexact Z10
    isplitl [Z20]; · iexact Z20
    isplitl [Z01]; · iexact Z01
    isplitl [Z11]; · iexact Z11
    isplitl [Z21]; · iexact Z21
    isplitl [Z0]; · iexact Z0
    isplitl [Z1]; · iexact Z1
    iexact Z2
  isplitl [HO]; · iexact HO
  isplitl [Hx Hwq Hk Hv Hwo]
  · isplitl [Hx]; · iexact Hx
    isplitl [Hwq]; · iexact Hwq
    isplitl [Hk]; · iexact Hk
    isplitl [Hv]; · iexact Hv
    iexact Hwo
  isplitl [Ho]; · iexact Ho
  isplitl [H6]; · iexists _; iexact H6
  isplitl [H7]; · iexists _; iexact H7
  isplitl [H8]; · iexists _; iexact H8
  isplitl [H9]; · iexists _; iexact H9
  iexists _; iexact H10

end Cert.KernelIdeal.Run

end
-- ==== Proof.Ghost.lean ====
/-
# The ghost state at launch

Every device's nineteen cells get their invariants in one step; the tokens minted at a cell go to the device that pays there. The launch
credits: a barrier cell is owed one unit by each of the three other devices, a receive cell the transfer's credit by its one sender.
-/
module

public import proofs.«01_k».proof.Proof.Body

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (Z : Sent F)

section Ghost
omit [FloatOps F]

/-! ## Conjunctions over the cells of a device -/

theorem bigSep_T (Φ : T → sProp 𝕄) : bigSep Finset.univ Φ = nine Φ :=
  bigSep_univ_eq_bigSepL order (by decide) (by decide) Φ

theorem bigSep_BT (Φ : Bool × T → sProp 𝕄) : bigSep Finset.univ Φ = bigSep Finset.univ fun t : T => iprop(Φ (false, t) ∗ Φ (true, t)) := by
  rw [bigSep_univ_prod, bigSep_univ_eq_bigSepL [false, true] (by decide) (by decide), bigSep_sep']
  rfl

theorem bigSep_CI (Φ : CI → sProp 𝕄) :
    bigSep Finset.univ Φ = iprop(Φ none ∗ bigSep Finset.univ fun t : T => iprop(Φ (some (false, t)) ∗ Φ (some (true, t)))) := by
  rw [← bigSep_BT fun k => Φ (some k), bigSep_univ_equiv ((Equiv.sumComm _ _).trans (Equiv.optionEquivSumPUnit (Bool × T)).symm : PUnit.{1} ⊕ (Bool × T) ≃ CI) Φ, bigSep_univ_sum,
    bigSep_univ_of_subsingleton PUnit.unit]
  rfl

/-! ## The cells and the tokens -/

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duties of a device's own cells: three of the barrier cell, one of each send and receive cell. -/
abbrev DI : Type := Fin 3 ⊕ (Bool × T)
def cellOfD : DI → CI | .inl _ => none | .inr k => some k
def dutyOfD : DI → Fin 3 | .inl d => d | .inr _ => 0
def tokOf (x : Dev nD × DI) : GSem nD τ sig × ℕ × Fin 3 := (kcell (x.1, cellOfD x.2), 0, dutyOfD x.2)

theorem tokOf_injective : Function.Injective (tokOf : Dev nD × DI → GSem nD τ sig × ℕ × Fin 3) := by
  rintro ⟨c, x⟩ ⟨c', x'⟩ h
  have h1 := kcell_injective (congrArg Prod.fst h)
  have h2 : dutyOfD x = dutyOfD x' := congrArg (fun y : GSem nD τ sig × ℕ × Fin 3 => y.2.2) h
  have h3 : cellOfD x = cellOfD x' := congrArg Prod.snd h1
  have h4 : c = c' := congrArg Prod.fst h1
  subst h4
  rcases x with d | k <;> rcases x' with d' | k'
  · exact congrArg (fun d => (c, Sum.inl d)) h2
  · cases h3
  · cases h3
  · exact congrArg (fun k => (c, Sum.inr k)) (Option.some.inj h3)

def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 3 => dutyTok ER (barCell c) 0 d) ∗ bigSep Finset.univ fun t : T => iprop(dutyTok ER (sndCell t c) 0 0 ∗ dutyTok ER (rcvCell t c) 0 0))
/-- The tokens of the duties device `c` pays. -/
def payToks (c : Dev nD) : sProp 𝕄 :=
  iprop((bigSep Finset.univ fun d : Fin 3 => dutyTok ER (barCell (nx d c)) 0 d) ∗ bigSep Finset.univ fun t : T => xfer c t)

def G (c : Dev nD) : sProp 𝕄 :=
  iprop((bigSep Finset.univ fun k : CI => roundState ER (rd Z) (kcell (c, k)) 0)
    ∗ (bigSep Finset.univ fun k : CI => iprop(atPos ER (kcell (c, k)) 0 ∅ 0 ∗ reached ER (kcell (c, k)) 0)) ∗ toks c)

/-- Device `c`'s part of the ghost state, its cells' names fixed. -/
def linear (c : Dev nD) : sProp 𝕄 := iprop((bigSep Finset.univ fun k : CI => atPos ER (kcell (c, k)) 0 ∅ 0) ∗ payToks c)
def G' (c : Dev nD) : sProp 𝕄 := iprop(∃ K, records Z K ∗ linear c)

theorem fund_ring : BI.own (ER (initOf ringCells ringToks)) ⊢ (|==> bigSep Finset.univ (G Z) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by rw [bigSep_univ_sum, bigSep_BT]; rfl
  iintro HX
  imod (Rounds.fund ER (rd Z) ringCells ringToks) $$ HX with ⟨Hst, Hr, Hat, Htok⟩
  imodintro
  ihave Hst' := (Entails.of_eq (hX fun g => roundState ER (rd Z) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## Allocation -/

theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = bigSep Finset.univ fun t : T => iprop(semVal (sndCell t c) 0 ∗ semVal (rcvCell t c) 0) := by
  unfold Pipeline.ownSems0; rw [bigSep_BT]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G Z c)
      ⊢ |={Set.univ}=> iprop((bigSep Finset.univ fun k => iprop(∃ κ : ℕ, cellInv ER (rd Z) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : CI => semVal (kcell (c, k)) 0) ∗ bigSep Finset.univ fun k : CI => roundState ER (rd Z) (kcell (c, k)) 0)
      ⊢ (|={Set.univ}=> bigSep Finset.univ fun k => iprop(∃ κ : ℕ, cellInv ER (rd Z) κ (kcell (c, k))) : sProp 𝕄) from by
        rw [← bigSep_sep']
        exact (bigSep_mono fun k _ => (Rounds.body_intro ER (rd Z) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- A conjunction over the devices, each summand taken at a shifted device. -/
theorem around {I : Type} [Fintype I] [DecidableEq I] (j : I → Fin 3) (Φ : I → Dev nD → sProp 𝕄) :
    (bigSep Finset.univ fun c : Dev nD => bigSep Finset.univ fun i : I => Φ i c) = bigSep Finset.univ fun c : Dev nD => bigSep Finset.univ fun i : I => Φ i (nx (j i) c) := by
  rw [bigSep_univ_comm, bigSep_univ_comm (fun c i => Φ i (nx (j i) c))]
  exact bigSep_congr fun i _ => bigSep_univ_equiv (shift (j i)) (Φ i)

theorem toks_around : (bigSep Finset.univ fun c : Dev nD => (toks c : sProp 𝕄)) = bigSep Finset.univ fun c : Dev nD => payToks c := by
  unfold toks payToks xfer
  rw [bigSep_sep', bigSep_sep', around (fun d => d) fun d c => (dutyTok ER (barCell c) 0 d : sProp 𝕄)]
  simp only [bigSep_sep']
  rw [around jOf fun t c => (dutyTok ER (rcvCell t c) 0 0 : sProp 𝕄)]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records Z K ∗ linear c) ⊢ (G' Z c : sProp 𝕄) := by
  unfold G'
  iintro H
  iexists K
  iexact H

theorem regroup :
    (bigSep Finset.univ fun c : Dev nD => iprop((bigSep Finset.univ fun k => iprop(∃ κ : ℕ, cellInv ER (rd Z) κ (kcell (c, k))))
          ∗ (bigSep Finset.univ fun k => iprop(atPos ER (kcell (c, k)) 0 ∅ 0 ∗ reached ER (kcell (c, k)) 0)) ∗ toks c) : sProp 𝕄)
      ⊢ bigSep Finset.univ (G' Z) := by
  rw [bigSep_sep', bigSep_sep', ← bigSep_univ_prod (fun ck : Dev nD × CI => iprop(∃ κ : ℕ, cellInv ER (rd Z) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (rd Z) κ (kcell ck) : sProp 𝕄))) $$ HI
  icases HK with ⟨%K, #HI⟩
  iapply (bigSep_with_persistent (R := records Z K) fun c _ => ghost_intro Z K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G Z c) : sProp 𝕄)
    ⊢ |={Set.univ}=> bigSep Finset.univ (G' Z) :=
  ((bigSep_mono fun c _ => core_alloc Z c).trans (bigSep_fupd _ _)).trans (BI.fupd_mono (regroup Z))

/-! ## The launch credit -/

theorem kcell_eq_iff {a b : Dev nD} {k l : CI} : (kcell (a, k) = kcell (b, l)) ↔ (a = b ∧ k = l) :=
  ⟨fun h => by have := kcell_injective h; exact ⟨congrArg Prod.fst this, congrArg Prod.snd this⟩, fun h => by rw [h.1, h.2]⟩

/-- What one summand of a device's debt is at a cell. -/
theorem tally_k (a b : Dev nD) (k l : CI) (n : ℕ) : (tallyAt (kcell (b, l)) () n : CellTallies nD τ sig Unit) (kcell (a, k)) () = if a = b ∧ k = l then n else 0 := by
  rw [tallyAt_apply]
  by_cases h : a = b ∧ k = l
  · rw [if_pos ⟨kcell_eq_iff.mpr h, rfl⟩, if_pos h]
  · rw [if_neg (fun h' => h (kcell_eq_iff.mp h'.1)), if_neg h]

theorem owe_k (d a : Dev nD) (k : CI) (l : List T) :
    owe d l (kcell (a, k)) () = (l.map fun t => if a = dst t d ∧ k = some (true, t) then Nt t else 0).sum := by
  induction l with
  | nil => rfl
  | cons t l ih =>
    unfold owe
    rw [Pi.add_apply, Finsupp.add_apply, ih, List.map_cons, List.sum_cons, Nat.add_comm]
    exact congrArg (· + _) (tally_k a (dst t d) k (some (true, t)) (Nt t))

theorem oweB_k (d a : Dev nD) (k : CI) (l : List (Fin 3)) :
    oweB d l (kcell (a, k)) () = (l.map fun j => if a = nx j d ∧ k = none then 1 else 0).sum + owe d order (kcell (a, k)) () := by
  induction l with
  | nil => exact (Nat.zero_add _).symm
  | cons j l ih =>
    unfold oweB
    rw [Pi.add_apply, Finsupp.add_apply, ih, List.map_cons, List.sum_cons]
    have h : (tallyAt (barCell (nx j d)) () 1 : CellTallies nD τ sig Unit) (kcell (a, k)) () = if a = nx j d ∧ k = none then 1 else 0 := tally_k a (nx j d) k none 1
    omega

theorem owed_bar (d c : Dev nD) : O₀ d (barCell c) () = if d = c then 0 else 1 := by
  show oweB d [0, 1, 2] (kcell (c, none)) () = _
  rw [oweB_k, owe_k]
  revert d c; decide +kernel

theorem owed_rcv (t : T) (d c : Dev nD) : O₀ d (rcvCell t c) () = if d = src t c then Nt t else 0 := by
  show oweB d [0, 1, 2] (kcell (c, some (true, t))) () = _
  rw [oweB_k, owe_k]
  have h1 : ([0, 1, 2].map fun j : Fin 3 => if c = nx j d ∧ (some (true, t) : CI) = none then 1 else 0).sum = 0 := by
    simp
  have h2 : ∀ s : T, (if c = dst s d ∧ (some (true, t) : CI) = some (true, s) then Nt s else 0) = if s = t then (if d = src t c then Nt t else 0) else 0 := fun s => by
    by_cases hs : s = t
    · subst hs
      rw [if_pos rfl]
      by_cases hd : d = src s c
      · rw [if_pos hd, if_pos ⟨by rw [hd]; exact (nx_pv _ c).symm, rfl⟩]
      · rw [if_neg hd, if_neg (fun h => hd (by rw [h.1]; exact (pv_nx _ d).symm))]
    · rw [if_neg hs, if_neg (fun h => hs (by have := h.2; injection this with this; exact (congrArg Prod.snd this).symm))]
  rw [h1, Nat.zero_add, funext h2]
  generalize (if d = src t c then Nt t else 0) = n
  have : ∀ t : T, (order.map fun s => if s = t then n else 0).sum = n := by
    rintro (⟨j, b⟩ | j)
    · fin_cases j <;> fin_cases b <;> simp [order]
    · fin_cases j <;> simp [order]
  exact this t

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_rcv (t : T) (c : Dev nD) :
    tallyOn (rcvCell t c) (launchCredit (Pipeline.owing O₀) 0 (rcvCell t c)) = (tallyAt (rcvCell t c) () (Nt t) : CellTallies nD τ sig Unit) := by
  unfold tallyAt; refine congrArg _ (Finsupp.ext fun u => ?_); cases u
  rw [Pipeline.launchCredit_owing, Finsupp.single_eq_same, Finset.sum_congr rfl fun d _ => owed_rcv t d c, Finset.sum_ite_eq' Finset.univ (src t c) fun _ => Nt t,
    if_pos (Finset.mem_univ _)]

/-- The credits the body waits with. -/
def creds (c : Dev nD) : sProp 𝕄 := iprop(cred (tallyAt (barCell c) () 3) ∗ bigSep Finset.univ fun t : T => cred (tallyAt (rcvCell t c) () (Nt t)))

theorem creds_intro (c : Dev nD) : (Pipeline.launchCred O₀ c : sProp 𝕄) ⊢ creds c := by
  unfold Pipeline.launchCred creds
  have hs : Finset.univ.map ⟨csem, csem_injective⟩ ⊆ (Finset.univ : Finset (SemLoc sig)) := Finset.subset_univ _
  have h : ∀ Φ : SemLoc sig → sProp 𝕄, bigSep Finset.univ Φ
      ⊢ iprop(Φ (csem none) ∗ (bigSep Finset.univ fun t : T => Φ (csem (some (false, t)))) ∗ bigSep Finset.univ fun t : T => Φ (csem (some (true, t)))) := fun Φ => by
    have h0 : bigSep Finset.univ Φ ⊢ bigSep (Finset.univ.map ⟨csem, csem_injective⟩) Φ := bigSep_subset hs
    refine h0.trans (Entails.of_eq ?_)
    rw [bigSep_map, bigSep_CI, bigSep_sep']; rfl
  refine (h _).trans ?_
  refine sep_mono (Entails.of_eq (congrArg _ (launch_bar c))) (sep_elim_right.trans (Entails.of_eq ?_))
  exact bigSep_congr (s := Finset.univ) fun (t : T) _ => congrArg (fun x => (cred x : sProp 𝕄)) (launch_rcv t c)

end Ghost

end Cert.KernelIdeal.Run

end
-- ==== Proof.Launch.lean ====
/-
# The launch

The run of the four devices from the launch memory: the body of each device between what the launch hands it and what it leaves, and the
launch theorem at these.
-/
module

public import proofs.«01_k».proof.Proof.Ghost
public import Idealize.ShloMosaic.Lib.Pipeline.CollectiveSegs

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument blocks of device `c`, as staged. -/
def Iof (c : Dev nD) : Ins F where
  x := (win0_0.blk (0 : Fin 1)).view.read (Elt F) (m ((c : Thread nD τ).loc main_arg0))
  wq := (win0_1.blk (0 : Fin 1)).view.read (Elt F) (m ((c : Thread nD τ).loc main_arg1))
  k := (win0_2.blk (0 : Fin 1)).view.read (Elt F) (m ((c : Thread nD τ).loc main_arg2))
  v := (win0_3.blk (0 : Fin 1)).view.read (Elt F) (m ((c : Thread nD τ).loc main_arg3))
  wo := (win0_4.blk (0 : Fin 1)).view.read (Elt F) (m ((c : Thread nD τ).loc main_arg4))

/-- What every device sends. -/
def Zof : Sent F := ⟨fun c => ofP (sP (Iof m c)), fun c => ofD (dP (Iof m c))⟩

/-- The result block of device `c`. -/
def outAt (c : Dev nD) : S2x512x768.Idx → Elt F .f32 := outC (allOf (Zof m) c (Iof m c))

/-- A buffer of device `c`, whole, at some contents. -/
abbrev some' (c : Dev nD) (b : Ref sig .tc) : sProp 𝕄 := iprop(∃ f : Buf (Elt F) ((c : Thread nD τ).loc b), ((c : Thread nD τ).loc b) ↦{fullShare} f)

/-- The five scratch buffers. -/
def scr (c : Dev nD) : sProp 𝕄 :=
  iprop(some' (F := F) c cc0_scratch0 ∗ some' c cc0_scratch1 ∗ some' c cc0_scratch2 ∗ some' c cc0_scratch3 ∗ some' c cc0_scratch4)

/-- What device `c` starts from besides its buffers. -/
def start (c : Dev nD) : sProp 𝕄 := iprop(G' (Zof m) c ∗ creds c ∗ levAts L lv)
def Φ₀ (c : Dev nD) : sProp 𝕄 := iprop(start m c ∗ scr c)
def Φ₁ (c : Dev nD) : sProp 𝕄 := iprop((semVal (barCell c) 0 ∗ nine (zeros (F := F) c)) ∗ scr c)

def dats (_ : Fin 1) (c : Dev nD) : Dat τ (Elt F) Unit ℕ UU ℕ cfg0 c where
  A w := m ((cfg0.win w).arr.view.loc (c : Thread nD τ))
  after w _ := match w with
    | ⟨0, _⟩ => (Iof m c).x
    | ⟨1, _⟩ => (Iof m c).wq
    | ⟨2, _⟩ => (Iof m c).k
    | ⟨3, _⟩ => (Iof m c).v
    | ⟨4, _⟩ => (Iof m c).wo
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop(Φ₁ c ∗ (dats m 0 c).owesAt () t0_0.succ ∗ stg c cc0_stg0_0 (Iof m c).x ∗ stg c cc0_stg1_0 (Iof m c).wq ∗ stg c cc0_stg2_0 (Iof m c).k
    ∗ stg c cc0_stg3_0 (Iof m c).v ∗ stg c cc0_stg4_0 (Iof m c).wo ∗ stg c cc0_stg5_0 (outAt m c))

theorem before_0 (c : Dev nD) (d) : (dats m 0 c).before (0 : Fin 6) t0_0 d = (Iof m c).x := by unfold Dat.before; rw [if_pos (fetch0_0 t0_0)]; rfl
theorem before_1 (c : Dev nD) (d) : (dats m 0 c).before (1 : Fin 6) t0_0 d = (Iof m c).wq := by unfold Dat.before; rw [if_pos (fetch0_1 t0_0)]; rfl
theorem before_2 (c : Dev nD) (d) : (dats m 0 c).before (2 : Fin 6) t0_0 d = (Iof m c).k := by unfold Dat.before; rw [if_pos (fetch0_2 t0_0)]; rfl
theorem before_3 (c : Dev nD) (d) : (dats m 0 c).before (3 : Fin 6) t0_0 d = (Iof m c).v := by unfold Dat.before; rw [if_pos (fetch0_3 t0_0)]; rfl
theorem before_4 (c : Dev nD) (d) : (dats m 0 c).before (4 : Fin 6) t0_0 d = (Iof m c).wo := by unfold Dat.before; rw [if_pos (fetch0_4 t0_0)]; rfl

/-- What the body starts from, in the form of `body_run`. -/
def runPre (K : Dev nD × CI → ℕ) (c : Dev nD) (o : S2x512x768.Idx → Elt F .f32) (f6 : S2x512x512.Idx → Elt F .f32) (f7 : S512x16.Idx → Elt F .f32)
    (f8 : S2x512x512.Idx → Elt F .bf16) : sProp 𝕄 :=
  iprop(□ records (Zof m) K ∗ □ levAts L lv ∗ nine (xfer c) ∗ nine (atP c) ∗ (dutyTok ER (barCell (nx 0 c)) 0 0 ∗ dutyTok ER (barCell (nx 1 c)) 0 1 ∗ dutyTok ER (barCell (nx 2 c)) 0 2)
       ∗ (slots c 0 ∗ slots c 1 ∗ slots c 2) ∗ ow c (O₀ c) ∗ cred (tallyAt (barCell c) () 3) ∗ atPos ER (barCell c) 0 ∅ 0
      ∗ inputs c (Iof m c) ∗ (oM.view.loc (c : Thread nD τ) ↦{fullShare} o)
      ∗ (parM.view.loc (c : Thread nD τ) ↦{fullShare} f6) ∗ (denM.view.loc (c : Thread nD τ) ↦{fullShare} f7) ∗ (sndM.view.loc (c : Thread nD τ) ↦{fullShare} f8))

theorem sound_body (K : Dev nD × CI → ℕ) (c : Dev nD) (o f6 f7 f8) :
    runPre m K c o f6 f7 f8 ⊢ wp frame (wpE (defs₀ (F := F)) 𝒱₀ (c : Thread nD τ) none) Set.univ prog (fun _ => done (Zof m) c (Iof m c)) :=
  body_run (Zof m) K c (Iof m c) rfl rfl o f6 f7 f8

omit [FloatOps F] in
/-- The positions and credits, per transfer. -/
theorem at_nine (c : Dev nD) :
    iprop((bigSep Finset.univ fun k : CI => (atPos ER (kcell (c, k)) 0 ∅ 0 : sProp 𝕄)) ∗ creds c)
      ⊢ iprop(atPos ER (barCell c) 0 ∅ 0 ∗ cred (tallyAt (barCell c) () 3) ∗ nine (atP c)) := by
  have h : iprop((bigSep Finset.univ fun t : T => iprop((atPos ER (sndCell t c) 0 ∅ 0 : sProp 𝕄) ∗ atPos ER (rcvCell t c) 0 ∅ 0))
      ∗ bigSep Finset.univ fun t : T => (cred (tallyAt (rcvCell t c) () (Nt t)) : sProp 𝕄)) ⊢ nine (atP c) := by
    rw [← bigSep_T, ← bigSep_sep']
    refine bigSep_mono fun t _ => show iprop(((atPos ER (sndCell t c) 0 ∅ 0 : sProp 𝕄) ∗ atPos ER (rcvCell t c) 0 ∅ 0) ∗ cred (tallyAt (rcvCell t c) () (Nt t))) ⊢ atP c t from ?_
    unfold atP atS atR
    iintro ⟨⟨H1, H2⟩, H3⟩
    isplitl [H1]; · iexact H1
    isplitl [H2]; · iexact H2
    iexact H3
  unfold creds
  iintro ⟨Ha, Hc, Hcs⟩
  ihave Ha := (Entails.of_eq (bigSep_CI fun k : CI => (atPos ER (kcell (c, k)) 0 ∅ 0 : sProp 𝕄))) $$ Ha
  icases Ha with ⟨Hb, Hs⟩
  isplitl [Hb]; · iexact Hb
  isplitl [Hc]; · iexact Hc
  iapply h
  isplitl [Hs]; · iexact Hs
  iexact Hcs

theorem body_ok (c : Dev nD) : bodyPre m c ⊢ wp frame (wpE (defs₀ (F := F)) 𝒱₀ (c : Thread nD τ) none) Set.univ prog (fun _ => bodyPost m c) := by
  have hfin : done (Zof m) c (Iof m c) ⊢ bodyPost m c := by
    unfold done bodyPost Φ₁ scr some' stg inputs ow Dat.owesAt Pipeline.owesWithin
    iintro ⟨Hz, ⟨%W, HO⟩, ⟨Hx, Hq, Hk, Hv, Hw⟩, Ho, H6, H7, H8, H9, H10⟩
    isplitl [Hz H6 H7 H8 H9 H10]
    · isplitl [Hz]; · iexact Hz
      isplitl [H6]; · iexact H6
      isplitl [H7]; · iexact H7
      isplitl [H8]; · iexact H8
      isplitl [H9]; · iexact H9
      iexact H10
    isplitl [HO]
    · iexists W
      isplitr; · ipureintro; exact fun _ _ => Or.inl trivial
      iexact HO
    isplitl [Hx]; · iexists _; isplitr; · (ipureintro; rfl)
                    iexact Hx
    isplitl [Hq]; · iexists _; isplitr; · (ipureintro; rfl)
                    iexact Hq
    isplitl [Hk]; · iexists _; isplitr; · (ipureintro; rfl)
                    iexact Hk
    isplitl [Hv]; · iexists _; isplitr; · (ipureintro; rfl)
                    iexact Hv
    isplitl [Hw]; · iexists _; isplitr; · (ipureintro; rfl)
                    iexact Hw
    iexists _; isplitr; · (ipureintro; rfl)
    iexact Ho
  have hrun : ∀ K o f6 f7 f8, runPre m K c o f6 f7 f8 ⊢ wp frame (wpE (defs₀ (F := F)) 𝒱₀ (c : Thread nD τ) none) Set.univ prog (fun _ => bodyPost m c) :=
    fun K o f6 f7 f8 => (sound_body m K c o f6 f7 f8).trans (Idealize.SL.Sem.wp_mono _ _ _ fun _ => hfin)
  unfold bodyPre Φ₀ start G' linear payToks scr Dat.owesAt Pipeline.owesWithin
  simp only [before_0, before_1, before_2, before_3, before_4]
  iintro ⟨⟨⟨⟨%K, #HR, Hat, Htb, Htx⟩, Hc, #Hlev⟩, ⟨%f6, H6⟩, ⟨%f7, H7⟩, ⟨%f8, H8⟩, ⟨%f9, H9⟩, ⟨%f10, H10⟩⟩, ⟨%W, %hW, HO⟩,
    ⟨%d0, %g0, %hg0, Hx⟩, ⟨%d1, %g1, %hg1, Hq⟩, ⟨%d2, %g2, %hg2, Hk⟩, ⟨%d3, %g3, %hg3, Hv⟩, ⟨%d4, %g4, %hg4, Hw⟩, ⟨%d5, %g5, %hg5, Ho⟩⟩
  subst hg0 hg1 hg2 hg3 hg4
  ihave Ha := (at_nine (F := F) c) $$ [Hat Hc]
  · isplitl [Hat]; · iexact Hat
    iexact Hc
  icases Ha with ⟨Hab, Hcb, Hnn⟩
  ihave Htx := (Entails.of_eq (bigSep_T (F := F) (xfer c))) $$ Htx
  ihave Htb := (Entails.of_eq (bigSep_fin3 fun d : Fin 3 => (dutyTok ER (barCell (nx d c)) 0 d : sProp 𝕄))) $$ Htb
  ihave Hs := (recv_slots c f9 f10) $$ [H9 H10]
  · isplitl [H9]; · iexact H9
    iexact H10
  iapply (hrun K g5 f6 f7 f8)
  unfold runPre inputs ow
  isplitr; · imodintro; iexact HR
  isplitr; · imodintro; iexact Hlev
  isplitl [Htx]; · iexact Htx
  isplitl [Hnn]; · iexact Hnn
  isplitl [Htb]; · iexact Htb
  isplitl [Hs]; · iexact Hs
  isplitl [HO]; · iexists W; iexact HO
  isplitl [Hcb]; · iexact Hcb
  isplitl [Hab]; · iexact Hab
  isplitl [Hx Hq Hk Hv Hw]
  · isplitl [Hx]; · iexact Hx
    isplitl [Hq]; · iexact Hq
    isplitl [Hk]; · iexact Hk
    isplitl [Hv]; · iexact Hv
    iexact Hw
  isplitl [Ho]; · iexact Ho
  isplitl [H6]; · iexact H6
  isplitl [H7]; · iexact H7
  iexact H8

theorem body_prog : (defs₀ (F := F)) .tc (0 : Fin 1) (t0_0, cfg0.slots t0_0) = prog := rfl

set_option maxRecDepth 1000000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  rw [body_prog]
  exact body_ok m c

/-! ## The side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Zof m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq, bigSep_T]
  unfold Φ₁ scr
  iintro ⟨⟨Hb, Hz⟩, Hr⟩
  isplitl [Hb]; · iexact Hb
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 1000000 in
/-- From any memory with zero counters every weakly fair execution of the four devices ends, with each window's array at `finalA` and every
    semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (Zof m)) (G' := G' (Zof m)) (u₀ := u₀)
    (hu₀ := by
      unfold u₀
      iintro Hu
      ihave H := (ownU_pair _ _) $$ Hu
      icases H with ⟨HP, HX⟩
      imod (fund_ring (Zof m)) $$ HX with HG
      imodintro
      isplitl [HP]; · iexact HP
      iexact HG)
    (hglob := glob (Zof m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.KernelIdeal.Run

end
-- ==== Proof.Final.lean ====
/-
# What the run leaves

The argument arrays unchanged, the result array at the computed contents, every counter at zero.
-/
module

public import proofs.«01_k».proof.Proof.Launch
public import Idealize.ShloMosaic.Lib.Pipeline.ValueKit.Geometry

@[expose] public section

set_option maxRecDepth 16384

noncomputable section

namespace Cert.KernelIdeal.Run

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The one block of a whole array is the array. -/
theorem blk_x (y : S2x512x768.Idx) : (win0_0.blk (0 : Fin 1)).view.emb y = y := by
  funext a; apply Fin.ext
  match a with
  | ⟨0, _⟩ => show 0 * 2 + 1 * (y 0).val = (y 0).val; omega
  | ⟨1, _⟩ => show 0 * 512 + 1 * (y 1).val = (y 1).val; omega
  | ⟨2, _⟩ => show 0 * 768 + 1 * (y 2).val = (y 2).val; omega
omit [FloatOps F] in
theorem blk_wq (y : S768x512.Idx) : (win0_1.blk (0 : Fin 1)).view.emb y = y := by
  funext a; apply Fin.ext
  match a with
  | ⟨0, _⟩ => show 0 * 768 + 1 * (y 0).val = (y 0).val; omega
  | ⟨1, _⟩ => show 0 * 512 + 1 * (y 1).val = (y 1).val; omega
omit [FloatOps F] in
theorem blk_k (y : S2x512x512.Idx) : (win0_2.blk (0 : Fin 1)).view.emb y = y := by
  funext a; apply Fin.ext
  match a with
  | ⟨0, _⟩ => show 0 * 2 + 1 * (y 0).val = (y 0).val; omega
  | ⟨1, _⟩ => show 0 * 512 + 1 * (y 1).val = (y 1).val; omega
  | ⟨2, _⟩ => show 0 * 512 + 1 * (y 2).val = (y 2).val; omega
omit [FloatOps F] in
theorem blk_v (y : S2x512x512.Idx) : (win0_3.blk (0 : Fin 1)).view.emb y = y := by
  funext a; apply Fin.ext
  match a with
  | ⟨0, _⟩ => show 0 * 2 + 1 * (y 0).val = (y 0).val; omega
  | ⟨1, _⟩ => show 0 * 512 + 1 * (y 1).val = (y 1).val; omega
  | ⟨2, _⟩ => show 0 * 512 + 1 * (y 2).val = (y 2).val; omega
omit [FloatOps F] in
theorem blk_wo (y : S512x768.Idx) : (win0_4.blk (0 : Fin 1)).view.emb y = y := by
  funext a; apply Fin.ext
  match a with
  | ⟨0, _⟩ => show 0 * 512 + 1 * (y 0).val = (y 0).val; omega
  | ⟨1, _⟩ => show 0 * 768 + 1 * (y 1).val = (y 1).val; omega
omit [FloatOps F] in
theorem blk_o (y : S2x512x768.Idx) : (win0_5.blk (0 : Fin 1)).view.emb y = y := by
  funext a; apply Fin.ext
  match a with
  | ⟨0, _⟩ => show 0 * 2 + 1 * (y 0).val = (y 0).val; omega
  | ⟨1, _⟩ => show 0 * 512 + 1 * (y 1).val = (y 1).val; omega
  | ⟨2, _⟩ => show 0 * 768 + 1 * (y 2).val = (y 2).val; omega

omit [FloatOps F] in
/-- The staged blocks are the argument arrays. -/
theorem Iof_eq (c : Dev nD) : Iof m c = ⟨m ((c : Thread nD τ).loc main_arg0), m ((c : Thread nD τ).loc main_arg1), m ((c : Thread nD τ).loc main_arg2),
    m ((c : Thread nD τ).loc main_arg3), m ((c : Thread nD τ).loc main_arg4)⟩ := by
  have h0 : (Iof m c).x = m ((c : Thread nD τ).loc main_arg0) := funext fun y => congrArg (m ((c : Thread nD τ).loc main_arg0)) (blk_x y)
  have h1 : (Iof m c).wq = m ((c : Thread nD τ).loc main_arg1) := funext fun y => congrArg (m ((c : Thread nD τ).loc main_arg1)) (blk_wq y)
  have h2 : (Iof m c).k = m ((c : Thread nD τ).loc main_arg2) := funext fun y => congrArg (m ((c : Thread nD τ).loc main_arg2)) (blk_k y)
  have h3 : (Iof m c).v = m ((c : Thread nD τ).loc main_arg3) := funext fun y => congrArg (m ((c : Thread nD τ).loc main_arg3)) (blk_v y)
  have h4 : (Iof m c).wo = m ((c : Thread nD τ).loc main_arg4) := funext fun y => congrArg (m ((c : Thread nD τ).loc main_arg4)) (blk_wo y)
  rw [← h0, ← h1, ← h2, ← h3, ← h4]

theorem final_o (c : Dev nD) : finalA m c (5 : Fin 6) = outAt m c := by
  unfold finalA
  refine (dats m 0 c).arrAt_eq_of_emb (5 : Fin 6) (outAt m c) (fun t hf y => ?_) (fun i => ⟨t0_0, flush0_5 t0_0, ?_⟩)
  · rw [fin_N0 t]
    exact (congrArg (outAt m c) (blk_o y)).symm
  · exact Finset.mem_map.mpr ⟨i, Finset.mem_univ _, blk_o i⟩

/-- The run, read at the arrays. -/
theorem run_arrays : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (final_o m c),
      (h.1 c (0 : Fin 6)).trans ((dats m 0 c).arrAt_in (0 : Fin 6) rfl _),
      (h.1 c (1 : Fin 6)).trans ((dats m 0 c).arrAt_in (1 : Fin 6) rfl _),
      (h.1 c (2 : Fin 6)).trans ((dats m 0 c).arrAt_in (2 : Fin 6) rfl _),
      (h.1 c (3 : Fin 6)).trans ((dats m 0 c).arrAt_in (3 : Fin 6) rfl _),
      (h.1 c (4 : Fin 6)).trans ((dats m 0 c).arrAt_in (4 : Fin 6) rfl _)⟩, h.2⟩) (run_main m ρ)

end Cert.KernelIdeal.Run

end
-- ==== Proof.SameText.lean ====
/-
# One program in two names

The kernel and its idealization are the same text, over any floats: at the machine's floats the two programs are equal, so the runs of the one are
runs of the other.
-/
module

public import proofs.«01_k».proof.Proof.Gen.Kernel
public import proofs.«01_k».proof.Proof.Gen.KernelIdeal

@[expose] public section

noncomputable section

namespace Cert.SameText

open Idealize.ShloMosaic

variable {F : FTy → Type} [FloatOps F]

/-- The kernel's body, -/
theorem body_eq : Cert.Kernel.defs₀ (F := F) = Cert.KernelIdeal.defs₀ (F := F) := by
  unfold Cert.Kernel.defs₀ Cert.KernelIdeal.defs₀
  congr 1
  funext a b
  rcases a with ⟨_ | n, h⟩
  · dsimp only
    unfold Cert.Kernel.cc0_body Cert.KernelIdeal.cc0_body
    rfl
  · exact absurd h (by omega)

/-- the body table, -/
theorem defs_eq : Cert.Kernel.defs (F := F) = Cert.KernelIdeal.defs (F := F) := congrArg (Pipeline.defs Cert.KernelIdeal.pcfgs) body_eq

/-- and the program around it. -/
theorem main_eq : Cert.Kernel.main (F := F) = Cert.KernelIdeal.main (F := F) := rfl

end Cert.SameText

end
-- ==== Proof.Softmax.lean ====
/-
# The masked softmax over the extended reals

A row of real scores, of which some are masked out by minus infinity. The reference subtracts the row's maximum before it takes exponentials,
and divides every weight by their sum; the kernel does neither: it divides the weighted values by the sum of the weights at the end. The two
agree for any weighted values, infinite ones too.
-/
module

public import Idealize.ShloMosaic.PureOps.Ideal.Laws
public import Idealize.ShloMosaic.Lib.IdealHost

@[expose] public section

noncomputable section

namespace Cert.Softmax

open Idealize.ShloMosaic
open scoped BigOperators

/-- A sum of casts of reals is the cast of their sum. -/
theorem coe_sum {ι : Type} (T : Finset ι) (f : ι → ℝ) : ∑ j ∈ T, ((f j : ℝ) : EReal) = ((∑ j ∈ T, f j : ℝ) : EReal) := by
  classical
  induction T using Finset.induction_on with
  | empty => simp
  | insert a T ha ih => rw [Finset.sum_insert ha, Finset.sum_insert ha, ih, EReal.coe_add]

/-- A real factor that is not negative goes into a sum of extended reals. -/
theorem sum_mul_coe {ι : Type} (T : Finset ι) (f : ι → EReal) (c : ℝ) (hc : 0 ≤ c) : (∑ j ∈ T, f j) * (c : EReal) = ∑ j ∈ T, f j * (c : EReal) := by
  classical
  induction T using Finset.induction_on with
  | empty => simp
  | insert a T ha ih =>
    rw [Finset.sum_insert ha, Finset.sum_insert ha, ← ih]
    exact EReal.right_distrib_of_nonneg_of_ne_top (EReal.coe_nonneg.mpr hc) (EReal.coe_ne_top c) _ _

theorem exp_coe (r : ℝ) : Ideal.exp (r : EReal) = ((Real.exp r : ℝ) : EReal) := rfl
theorem exp_bot : Ideal.exp ⊥ = 0 := rfl

/-- Division of a real by a positive real is that of the reals. -/
theorem div_coe_pos (x : EReal) (d : ℝ) (hd : 0 < d) : Ideal.div x (d : EReal) = x * ((d⁻¹ : ℝ) : EReal) := by
  unfold Ideal.div
  rw [if_neg (by exact_mod_cast hd.ne'), EReal.coe_inv]

/-- The row: `σ` the scores, `S` the positions kept, `v` the values, `M` the number subtracted. -/
theorem soft {ι : Type} [Fintype ι] (S : ι → Prop) [DecidablePred S] (σ : ι → ℝ) (v : ι → EReal) (M : EReal) (hb : M ≠ ⊥) (ht : M ≠ ⊤)
    (j0 : ι) (h0 : S j0) :
    Ideal.div (∑ j, if S j then Ideal.exp (σ j) * v j else 0) (∑ j, if S j then Ideal.exp (σ j) else 0)
      = ∑ j, v j * Ideal.div (Ideal.exp ((if S j then (σ j : EReal) else ⊥) - M)) (0 + ∑ k, Ideal.exp ((if S k then (σ k : EReal) else ⊥) - M)) := by
  lift M to ℝ using ⟨ht, hb⟩
  let a : ι → ℝ := fun j => if S j then Real.exp (σ j) else 0
  have a0 : ∀ j, 0 ≤ a j := fun j => by
    show 0 ≤ if S j then Real.exp (σ j) else 0
    split
    · exact (Real.exp_pos _).le
    · exact le_rfl
  have aD : ∀ j, (if S j then Ideal.exp (σ j) else 0) = ((a j : ℝ) : EReal) := fun j => by
    show _ = ((if S j then Real.exp (σ j) else 0 : ℝ) : EReal)
    split
    · exact exp_coe _
    · exact EReal.coe_zero.symm
  have aN : ∀ j, (if S j then Ideal.exp (σ j) * v j else 0) = v j * ((a j : ℝ) : EReal) := fun j => by
    rw [← aD j]
    split
    · exact mul_comm _ _
    · exact (mul_zero _).symm
  have aW : ∀ j, Ideal.exp ((if S j then (σ j : EReal) else ⊥) - (M : EReal)) = ((a j * Real.exp (-M) : ℝ) : EReal) := fun j => by
    show _ = (((if S j then Real.exp (σ j) else 0) * Real.exp (-M) : ℝ) : EReal)
    split
    · rw [← EReal.coe_sub, exp_coe, ← Real.exp_add, sub_eq_add_neg]
    · rw [EReal.bot_sub, exp_bot, zero_mul, EReal.coe_zero]
  have hD : 0 < ∑ j, a j := lt_of_lt_of_le (show 0 < a j0 by show 0 < if S j0 then Real.exp (σ j0) else 0; rw [if_pos h0]; exact Real.exp_pos _)
    (Finset.single_le_sum (fun j _ => a0 j) (Finset.mem_univ j0))
  have hW : 0 < ∑ j, a j * Real.exp (-M) := by rw [← Finset.sum_mul]; exact mul_pos hD (Real.exp_pos _)
  simp only [aD, aN, aW]
  rw [coe_sum, coe_sum, zero_add, div_coe_pos _ _ hD, sum_mul_coe _ _ _ (inv_nonneg.mpr hD.le)]
  refine Finset.sum_congr rfl fun j _ => ?_
  rw [div_coe_pos _ _ hW, mul_assoc, ← EReal.coe_mul, ← EReal.coe_mul]
  congr 2
  rw [← Finset.sum_mul, mul_inv, mul_comm (∑ j, a j)⁻¹, ← mul_assoc, mul_assoc (a j), mul_inv_cancel₀ (Real.exp_pos _).ne', mul_one]

/-! ## The maximum of the row -/

theorem fold_max_ne_top {ι : Type} [Fintype ι] (f : ι → EReal) (hf : ∀ j, f j ≠ ⊤) : Finset.univ.fold max ⊥ f ≠ ⊤ :=
  (Finset.fold_max_lt (c := ⊤)).mpr ⟨bot_lt_top, fun j _ => lt_top_iff_ne_top.mpr (hf j)⟩ |>.ne

theorem fold_max_ne_bot {ι : Type} [Fintype ι] (f : ι → EReal) (j0 : ι) (h0 : f j0 ≠ ⊥) : Finset.univ.fold max ⊥ f ≠ ⊥ :=
  (Finset.lt_fold_max (c := ⊥)).mpr (.inr ⟨j0, Finset.mem_univ _, bot_lt_iff_ne_bot.mpr h0⟩) |>.ne'

/-! ## The keys of one residue -/

/-- The `k`-th key of residue `r` on device `d`, among all keys. -/
def key (r d : Fin 4) (k : Fin 128) : Fin 2048 := ⟨512 * d.val + (64 * (r.val + 4 * (k.val / 64)) + k.val % 64), by
  have := r.isLt; have := d.isLt; have := k.isLt; omega⟩

/-- A sum over the keys of one residue is that over the devices and their keys of that residue. -/
theorem sum_key (r : Fin 4) (f : Fin 2048 → EReal) : (∑ j : Fin 2048, if j.val / 64 % 4 = r.val then f j else 0) = ∑ d : Fin 4, ∑ k : Fin 128, f (key r d k) := by
  rw [← Finset.sum_filter, ← Fintype.sum_prod_type' (f := fun d k => f (key r d k))]
  refine Finset.sum_bij' (fun j _ => ((⟨j.val / 512, by have := j.isLt; omega⟩ : Fin 4), (⟨j.val % 512 / 256 * 64 + j.val % 64, by omega⟩ : Fin 128)))
    (fun p _ => key r p.1 p.2) (fun _ _ => Finset.mem_univ _) (fun p _ => ?_) (fun j hj => ?_) (fun p _ => ?_) (fun j hj => ?_)
  · rw [Finset.mem_filter]
    have := r.isLt; have := p.1.isLt; have := p.2.isLt
    exact ⟨Finset.mem_univ _, by show (512 * p.1.val + (64 * (r.val + 4 * (p.2.val / 64)) + p.2.val % 64)) / 64 % 4 = r.val; omega⟩
  · have h := (Finset.mem_filter.mp hj).2
    have := j.isLt
    refine Fin.ext ?_
    show 512 * (j.val / 512) + (64 * (r.val + 4 * ((j.val % 512 / 256 * 64 + j.val % 64) / 64)) + (j.val % 512 / 256 * 64 + j.val % 64) % 64) = j.val
    omega
  · have := r.isLt; have := p.1.isLt; have := p.2.isLt
    refine Prod.ext (Fin.ext ?_) (Fin.ext ?_)
    · show (512 * p.1.val + (64 * (r.val + 4 * (p.2.val / 64)) + p.2.val % 64)) / 512 = p.1.val; omega
    · show (512 * p.1.val + (64 * (r.val + 4 * (p.2.val / 64)) + p.2.val % 64)) % 512 / 256 * 64 + (512 * p.1.val + (64 * (r.val + 4 * (p.2.val / 64)) + p.2.val % 64)) % 64 = p.2.val; omega
  · have h := (Finset.mem_filter.mp hj).2
    have := j.isLt
    congr 1
    refine Fin.ext ?_
    show j.val = 512 * (j.val / 512) + (64 * (r.val + 4 * ((j.val % 512 / 256 * 64 + j.val % 64) / 64)) + (j.val % 512 / 256 * 64 + j.val % 64) % 64)
    omega

end Cert.Softmax

end
-- ==== Proof.Spec.lean ====
/-
# The attention both programs compute, as sums

The arrays are functions of their coordinates: the activations `X b q t`, the query weights `W t m`, the keys and values `K b j m`, over all
2048 positions, and the output weights `U m n`. Column `64 h + e` is entry `e` of head `h`.
-/
module

public import proofs.«01_k».proof.Proof.Softmax

@[expose] public section

noncomputable section

namespace Cert.Spec

open Idealize.ShloMosaic
open scoped BigOperators

/-- Column `e` of head `h`. -/
def col (h : Fin 8) (e : Fin 64) : Fin 512 := ⟨h.val * 64 + e.val, by have := h.isLt; have := e.isLt; omega⟩
/-- The head of a column and its place there. -/
def hd (m : Fin 512) : Fin 8 := ⟨m.val / 64, by have := m.isLt; omega⟩
def en (m : Fin 512) : Fin 64 := ⟨m.val % 64, Nat.mod_lt _ (by decide)⟩
theorem col_hd_en (m : Fin 512) : col (hd m) (en m) = m := Fin.ext (Nat.div_add_mod' _ _)

/-- The residue of the block of a query row. -/
def res (q : Fin 512) : Fin 4 := ⟨q.val / 64 % 4, Nat.mod_lt _ (by decide)⟩

variable (X : Fin 2 → Fin 512 → Fin 768 → EReal) (W : Fin 768 → Fin 512 → EReal) (K V : Fin 2 → Fin 2048 → Fin 512 → EReal)
  (U : Fin 512 → Fin 768 → EReal)

/-- The queries, -/
def qry (b : Fin 2) (q : Fin 512) (m : Fin 512) : EReal := ∑ t : Fin 768, X b q t * W t m

/-- the scores, one eighth of the products of queries and keys, -/
def score (b : Fin 2) (h : Fin 8) (q : Fin 512) (j : Fin 2048) : EReal :=
  (∑ e : Fin 64, qry X W b q (col h e) * K b j (col h e)) * Ideal.ofBits .f32 0x3E000000#32

/-- the scores with those of other residues masked out. -/
def masked (b : Fin 2) (h : Fin 8) (q : Fin 512) (j : Fin 2048) : EReal := if j.val / 64 % 4 = q.val / 64 % 4 then score X W K b h q j else ⊥

/-- The maximum of a row, -/
def top (b : Fin 2) (h : Fin 8) (q : Fin 512) : EReal := Finset.univ.fold max ⊥ (masked X W K b h q)

/-- and the softmax of the row. -/
def soft (b : Fin 2) (h : Fin 8) (q : Fin 512) (j : Fin 2048) : EReal :=
  Ideal.div (Ideal.exp (masked X W K b h q j - top X W K b h q)) (∑ k, Ideal.exp (masked X W K b h q k - top X W K b h q))

/-- The reference's result. -/
def refOut (b : Fin 2) (q : Fin 512) (n : Fin 768) : EReal :=
  ∑ m : Fin 512, (∑ j : Fin 2048, V b j m * soft X W K b (hd m) q j) * U m n

/-- What device `d` computes of a row: the weighted values and the weights, over its keys of the row's residue, -/
def num (b : Fin 2) (q : Fin 512) (m : Fin 512) (d : Fin 4) : EReal :=
  ∑ k : Fin 128, Ideal.exp (score X W K b (hd m) q (Softmax.key (res q) d k)) * V b (Softmax.key (res q) d k) m
def den (b : Fin 2) (h : Fin 8) (q : Fin 512) (d : Fin 4) : EReal := ∑ k : Fin 128, Ideal.exp (score X W K b h q (Softmax.key (res q) d k))

/-- and the kernel's result. -/
def kerOut (b : Fin 2) (q : Fin 512) (n : Fin 768) : EReal :=
  ∑ m : Fin 512, Ideal.div (∑ d : Fin 4, num X W K V b q m d) (∑ d : Fin 4, den X W K b (hd m) q d) * U m n

/-- A product of two extended reals that are real is real, and so is a sum of such. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} [Fintype ι] (f : ι → EReal) (hf : ∀ i, IsReal (f i)) : IsReal (∑ i, f i) := by
  choose g hg using hf
  exact ⟨∑ i, g i, by rw [← Softmax.coe_sum]; exact Finset.sum_congr rfl fun i _ => hg i⟩

/-- The two results are equal where the activations, the query weights and the keys are real. -/
theorem out_eq (hX : ∀ b q t, IsReal (X b q t)) (hW : ∀ t m, IsReal (W t m)) (hK : ∀ b j m, IsReal (K b j m)) (hs : IsReal (Ideal.ofBits .f32 0x3E000000#32))
    (b : Fin 2) (q : Fin 512) (n : Fin 768) : kerOut X W K V U b q n = refOut X W K V U b q n := by
  have hq := q.isLt
  unfold kerOut refOut
  refine Finset.sum_congr rfl fun m _ => congrArg (· * U m n) ?_
  have hS : ∀ j, IsReal (score X W K b (hd m) q j) := fun j =>
    (IsReal.sum _ fun e => (IsReal.sum _ fun t => (hX _ _ _).mul (hW _ _)).mul (hK _ _ _)).mul hs
  choose σ hσ using hS
  have hm : ∀ j, masked X W K b (hd m) q j = if j.val / 64 % 4 = q.val / 64 % 4 then (σ j : EReal) else ⊥ := fun j => by
    unfold masked; rw [hσ j]
  have ht : top X W K b (hd m) q ≠ ⊤ := Softmax.fold_max_ne_top _ fun j => by
    rw [hm j]; split
    · exact EReal.coe_ne_top _
    · exact bot_ne_top
  have hb : top X W K b (hd m) q ≠ ⊥ := Softmax.fold_max_ne_bot _ (⟨q.val, by omega⟩ : Fin 2048) (by
    rw [hm, if_pos rfl]; exact EReal.coe_ne_bot _)
  have key := Softmax.soft (fun j : Fin 2048 => j.val / 64 % 4 = q.val / 64 % 4) σ (fun j => V b j m) _ hb ht ⟨q.val, by omega⟩ rfl
  rw [zero_add] at key
  simp only [← hm] at key
  unfold soft num den
  rw [← key, ← Softmax.sum_key (res q) (fun j => Ideal.exp (score X W K b (hd m) q j) * V b j m), ← Softmax.sum_key (res q) (fun j => Ideal.exp (score X W K b (hd m) q j))]
  simp only [hσ]
  rfl

end Cert.Spec

end
-- ==== Proof.KerParts.lean ====
/-
# What one device computes, at an index

The parts of one device over the extended reals: its queries, scores, weights, weighted values and row sums, at an index.
-/
module

public import proofs.«01_k».proof.Proof.Vals
public import proofs.«01_k».proof.Proof.Spec
public import Idealize.ShloMosaic.Lib.Pointwise
public import Idealize.ShloMosaic.Lib.Pointwise.IndexBridge

@[expose] public section

set_option maxRecDepth 16384

noncomputable section

namespace Cert.KernelIdeal.Run

open Cert.KernelIdeal Cert.KernelIdeal.Gen Idealize.ShloMosaic Idealize.ShloMosaic.TcCoe
open scoped BigOperators

/-! ## Reads of whole buffers and of row blocks -/

/-- An array at a position of a unit-stride rectangle. -/
theorem at_emb {α : Type} {s : Shape} (f : s.Idx → α) {off size : Fin s.rank → ℕ} (inb : ∀ a, off a + size a ≤ s.size a)
    (y : (Rect.unit off size inb).shape.Idx) (i : s.Idx) (h : ∀ a, (i a).val = off a + (y a).val) : f ((Rect.unit off size inb).emb y) = f i :=
  congrArg f (funext fun a => Fin.ext ((unit_emb inb y a).trans (h a).symm))

variable (I : Ins Ideal)

/-- Row `64 s + y` of the two row blocks of residue `r`. -/
def row (r : Fin 4) (p : Fin 128) : Fin 512 := ⟨64 * (r.val + 4 * (p.val / 64)) + p.val % 64, by have := r.isLt; have := p.isLt; omega⟩

theorem two_apply (z : S512x64.Idx → EReal) (r : Fin 4) (p : Fin 128) (e : Fin 64) : two (F := Ideal) z r (ix2 p e) = z (ix2 (row r p) e) := by
  have hp := p.isLt
  unfold two
  by_cases h : p.val < 64
  · rw [concatenate_pair_apply_left (t := S128x64) (s₁ := S64x64) (s₂ := S64x64) 0 _ _ _ _ rfl (ix2 (⟨p.val, h⟩ : Fin 64) e) (fun b => by fin_cases b <;> rfl)]
    refine extractStridedSlice_apply _ _ _ _ _ fun a => ?_
    fin_cases a
    · show 64 * (r.val + 4 * (p.val / 64)) + p.val % 64 = 64 * (r.val + 4 * 0) + p.val; omega
    · show e.val = 0 + e.val; omega
  · rw [concatenate_pair_apply_right (t := S128x64) (s₁ := S64x64) (s₂ := S64x64) 0 _ _ _ _ rfl rfl (ix2 (⟨p.val - 64, by omega⟩ : Fin 64) e)
      (fun b hb => by
        fin_cases b
        · exact absurd rfl hb
        · rfl)
      (by show p.val - 64 + 64 = p.val; omega)]
    refine extractStridedSlice_apply _ _ _ _ _ fun a => ?_
    fin_cases a
    · show 64 * (r.val + 4 * (p.val / 64)) + p.val % 64 = 64 * (r.val + 4 * 1) + (p.val - 64); omega
    · show e.val = 0 + e.val; omega

/-! ## Queries, keys, values -/

/-- The projection of one batch's block. -/
def proj (A : S1x512x768.Idx → EReal) (B : S768x512.Idx → EReal) : FVec Ideal S512x512 .bf16 :=
  truncf (F := Ideal) .bf16 (matmul dot_S512x768_S768x512_S512x512_1_0_0_1_n_n none
    (truncf (F := Ideal) (φ := .f32) .bf16 (shapeCast S512x768 A shapeCasts_S1x512x768_S512x768) bitsLt_bf16_f32)
    (truncf (F := Ideal) (φ := .f32) .bf16 (shapeCast S768x512 B shapeCasts_S768x512_S768x512) bitsLt_bf16_f32)
    (constant S512x512 .f32 0x00000000#32)) bitsLt_bf16_f32

theorem proj_apply (A : S1x512x768.Idx → EReal) (B : S768x512.Idx → EReal) (q m : Fin 512) :
    proj A B (ix2 q m) = ∑ t : Fin 768, A (ix3 0 q t) * B (ix2 t m) := by
  unfold proj
  pointwise

/-- One head's columns of one batch's block. -/
def head (A : S1x512x64.Idx → EReal) : FVec Ideal S512x64 .bf16 :=
  truncf (F := Ideal) (φ := .f32) .bf16 (shapeCast S512x64 A shapeCasts_S1x512x64_S512x64) bitsLt_bf16_f32

theorem head_apply (A : S1x512x64.Idx → EReal) (j : Fin 512) (e : Fin 64) : head A (ix2 j e) = A (ix3 0 j e) := by
  unfold head
  pointwise

theorem qB_apply (b : Fin 2) (q m : Fin 512) :
    qB I b (ix2 q m) = Spec.qry (fun b q t => I.x (ix3 b q t)) (fun t m => I.wq (ix2 t m)) b q m := by
  refine (proj_apply _ _ q m).trans (Finset.sum_congr rfl fun t _ => congrArg₂ (· * ·) ?_ ?_)
  · refine at_emb I.x (inX b) (ix3 0 q t) (ix3 b q t) fun a => ?_
    fin_cases a
    · exact (Nat.add_zero _).symm
    · exact (Nat.zero_add _).symm
    · exact (Nat.zero_add _).symm
  · refine at_emb I.wq inb_S768x512_S768x512_0_0 (ix2 t m) (ix2 t m) fun a => ?_
    fin_cases a
    · exact (Nat.zero_add _).symm
    · exact (Nat.zero_add _).symm

theorem qH_apply (b : Fin 2) (h : Fin 8) (q : Fin 512) (e : Fin 64) : qH I b h (ix2 q e) = qB I b (ix2 q (Spec.col h e)) :=
  extractStridedSlice_apply _ _ _ _ _ fun a => by
    fin_cases a
    · exact (Nat.zero_add _).symm
    · show h.val * 64 + e.val = 64 * h.val + e.val; omega

/-- One head's columns in a batch, in the whole array. -/
theorem head_at (f : S2x512x512.Idx → EReal) (b : Fin 2) (h : Fin 8) (j : Fin 512) (e : Fin 64) :
    f ((Rect.unit (s := S2x512x512) ![b.val, 0, 64 * h.val] S1x512x64.size (inKV b h)).emb (ix3 (0 : Fin 1) j e)) = f (ix3 b j (Spec.col h e)) :=
  at_emb f (inKV b h) (ix3 (0 : Fin 1) j e) (ix3 b j (Spec.col h e)) fun a => by
    fin_cases a
    · exact (Nat.add_zero _).symm
    · exact (Nat.zero_add _).symm
    · show h.val * 64 + e.val = 64 * h.val + e.val; omega

theorem kH_apply (b : Fin 2) (h : Fin 8) (j : Fin 512) (e : Fin 64) : kH I b h (ix2 j e) = I.k (ix3 b j (Spec.col h e)) :=
  (head_apply _ j e).trans (head_at I.k b h j e)

theorem vH_apply (b : Fin 2) (h : Fin 8) (j : Fin 512) (e : Fin 64) : vH I b h (ix2 j e) = I.v (ix3 b j (Spec.col h e)) :=
  (head_apply _ j e).trans (head_at I.v b h j e)

/-! ## Weights, weighted values, row sums -/

theorem wB_apply (b : Fin 2) (h : Fin 8) (r : Fin 4) (p k : Fin 128) :
    wB I b h r (ix2 p k) = Ideal.exp ((∑ e : Fin 64, qH I b h (ix2 (row r p) e) * kH I b h (ix2 (row r k) e)) * Ideal.ofBits .f32 0x3E000000#32) := by
  unfold wB
  pointwise
  simp only [two_apply]

theorem nB_apply (b : Fin 2) (h : Fin 8) (r : Fin 4) (p : Fin 128) (e : Fin 64) :
    nB I b h r (ix2 p e) = ∑ k : Fin 128, wB I b h r (ix2 p k) * vH I b h (ix2 (row r k) e) := by
  unfold nB
  pointwise
  simp only [two_apply]

theorem dB_apply (b : Fin 2) (h : Fin 8) (r : Fin 4) (p : Fin 128) : dB I b h r (ix2 p 0) = ∑ k : Fin 128, wB I b h r (ix2 p k) := by
  unfold dB
  pointwise

/-! ## The blocks stored -/

theorem nP_apply (b : Fin 2) (h : Fin 8) (r : Fin 4) (s : Fin 2) (y e : Fin 64) (p : Fin 128) (hp : p.val = 64 * s.val + y.val) :
    nP I b h r s (ix3 0 y e) = nB I b h r (ix2 p e) := by
  rw [show p = ⟨64 * s.val + y.val, hp ▸ p.isLt⟩ from Fin.ext hp]
  unfold nP
  pointwise

theorem sP_apply (b : Fin 2) (h : Fin 8) (r : Fin 4) (s : Fin 2) (y e : Fin 64) (p : Fin 128) (hp : p.val = 64 * s.val + y.val) :
    sP I b h r s (ix3 0 y e) = nB I b h r (ix2 p e) := by
  rw [show p = ⟨64 * s.val + y.val, hp ▸ p.isLt⟩ from Fin.ext hp]
  unfold sP
  pointwise

theorem dP_apply (b : Fin 2) (h : Fin 8) (r : Fin 4) (s : Fin 2) (y : Fin 64) (p : Fin 128) (hp : p.val = 64 * s.val + y.val) :
    dP I b h r s (ix2 y 0) = dB I b h r (ix2 p 0) := by
  rw [show p = ⟨64 * s.val + y.val, hp ▸ p.isLt⟩ from Fin.ext hp]
  unfold dP
  pointwise

/-! ## The arrays of partial sums, over the keys of the whole -/

variable (K V : Fin 2 → Fin 2048 → Fin 512 → EReal) (d : Fin 4)

/-- Row `64 (q / 256) + q % 64` of residue `res q` is row `q`. -/
theorem row_res (q : Fin 512) (p : Fin 128) (hp : p.val = 64 * (q.val / 256) + q.val % 64) : row (Spec.res q) p = q := by
  have hq := q.isLt
  apply Fin.ext
  show 64 * (q.val / 64 % 4 + 4 * (p.val / 64)) + p.val % 64 = q.val
  omega

/-- Local row `row r k` on device `d` is key `key r d k`. -/
theorem key_row (r : Fin 4) (k : Fin 128) : (Softmax.key r d k).val = 512 * d.val + (row r k).val := rfl

theorem w_apply (hK : ∀ b j m (g : Fin 2048), g.val = 512 * d.val + j.val → I.k (ix3 b j m) = K b g m) (b : Fin 2) (h : Fin 8) (q : Fin 512) (p k : Fin 128)
    (hp : p.val = 64 * (q.val / 256) + q.val % 64) :
    wB I b h (Spec.res q) (ix2 p k)
      = Ideal.exp (Spec.score (fun b q t => I.x (ix3 b q t)) (fun t m => I.wq (ix2 t m)) K b h q (Softmax.key (Spec.res q) d k)) := by
  rw [wB_apply, row_res q p hp]
  unfold Spec.score
  simp only [qH_apply, qB_apply, kH_apply, hK _ _ _ _ (key_row d (Spec.res q) k)]

theorem num_apply (hK : ∀ b j m (g : Fin 2048), g.val = 512 * d.val + j.val → I.k (ix3 b j m) = K b g m)
    (hV : ∀ b j m (g : Fin 2048), g.val = 512 * d.val + j.val → I.v (ix3 b j m) = V b g m) (b : Fin 2) (q m : Fin 512) (p : Fin 128)
    (hp : p.val = 64 * (q.val / 256) + q.val % 64) :
    nB I b (Spec.hd m) (Spec.res q) (ix2 p (Spec.en m)) = Spec.num (fun b q t => I.x (ix3 b q t)) (fun t m => I.wq (ix2 t m)) K V b q m d := by
  rw [nB_apply]
  unfold Spec.num
  refine Finset.sum_congr rfl fun k _ => ?_
  rw [w_apply I K d hK b (Spec.hd m) q p k hp, vH_apply, hV _ _ _ _ (key_row d (Spec.res q) k), Spec.col_hd_en]

theorem den_apply (hK : ∀ b j m (g : Fin 2048), g.val = 512 * d.val + j.val → I.k (ix3 b j m) = K b g m) (b : Fin 2) (h : Fin 8) (q : Fin 512) (p : Fin 128)
    (hp : p.val = 64 * (q.val / 256) + q.val % 64) :
    dB I b h (Spec.res q) (ix2 p 0) = Spec.den (fun b q t => I.x (ix3 b q t)) (fun t m => I.wq (ix2 t m)) K b h q d := by
  rw [dB_apply]
  exact Finset.sum_congr rfl fun k _ => w_apply I K d hK b h q p k hp

end Cert.KernelIdeal.Run

end
-- ==== Proof.KerOut.lean ====
/-
# The kernel's result, at an index

One device's result over the extended reals: the four devices' weighted values, over their row sums, times the output weights.
-/
module

public import proofs.«01_k».proof.Proof.KerParts
public import proofs.«01_k».proof.Proof.Out

@[expose] public section

set_option maxRecDepth 16384

noncomputable section

namespace Cert.KernelIdeal.Run

open Cert.KernelIdeal Cert.KernelIdeal.Gen Idealize.ShloMosaic Idealize.ShloMosaic.TcCoe
open scoped BigOperators

/-! ## The stages of the combination, over plain arrays -/

theorem own_cast (B : S1x512x64.Idx → EReal) (q : Fin 512) (e : Fin 64) :
    shapeCast S512x64 B shapeCasts_S1x512x64_S512x64 (ix2 q e) = B (ix3 0 q e) := by pointwise

theorem recv_cast (B : S1x1x512x64.Idx → EReal) (q : Fin 512) (e : Fin 64) :
    shapeCast S512x64 B shapeCasts_S1x1x512x64_S512x64 (ix2 q e) = B (ix4 0 0 q e) := by pointwise

theorem sums_cast (B : S1x512x16.Idx → EReal) (q : Fin 512) (n : Fin 16) :
    shapeCast S512x16 B shapeCasts_S1x512x16_S512x16 (ix2 q n) = B (ix3 0 q n) := by pointwise

/-- The product of one batch's context and the output weights. -/
def last (Y : S1x512x512.Idx → EReal) (B : S512x768.Idx → EReal) : FVec Ideal S1x512x768 .f32 :=
  shapeCast S1x512x768 (matmul (F := Ideal) (φ₁ := .bf16) dot_S512x512_S512x768_S512x768_1_0_0_1_n_n none (shapeCast S512x512 Y shapeCasts_S1x512x512_S512x512)
    (truncf (F := Ideal) (φ := .f32) .bf16 (shapeCast S512x768 B shapeCasts_S512x768_S512x768) bitsLt_bf16_f32)
    (constant S512x768 .f32 0x00000000#32)) shapeCasts_S512x768_S1x512x768

theorem last_apply (Y : S1x512x512.Idx → EReal) (B : S512x768.Idx → EReal) (q : Fin 512) (n : Fin 768) :
    last Y B (ix3 0 q n) = ∑ m : Fin 512, Y (ix3 0 q m) * B (ix2 m n) := by
  unfold last
  pointwise

variable (A : All Ideal)

/-! ## The stages on one device -/

/-- The column of a batch and a head among the row sums. -/
def bh (b : Fin 2) (h : Fin 8) : Fin 16 := ⟨8 * b.val + h.val, by have := b.isLt; have := h.isLt; omega⟩

theorem tR_apply (j : Fin 3) (q : Fin 512) (n : Fin 16) : tR A j (ix2 q n) = A.cd (ix3 j q n) := by
  refine (sums_cast _ q n).trans (at_emb A.cd (inT j) (ix3 (0 : Fin 1) q n) (ix3 j q n) fun a => ?_)
  fin_cases a
  · exact (Nat.add_zero _).symm
  · exact (Nat.zero_add _).symm
  · exact (Nat.zero_add _).symm

theorem tD_apply (q : Fin 512) (n : Fin 16) : tD A (ix2 q n) = A.den (ix2 q n) + A.cd (ix3 0 q n) + A.cd (ix3 1 q n) + A.cd (ix3 2 q n) := by
  rw [← tR_apply, ← tR_apply, ← tR_apply]
  refine congrArg (· + tR A 0 (ix2 q n) + tR A 1 (ix2 q n) + tR A 2 (ix2 q n)) (at_emb A.den inb_S512x16_S512x16_0_0 (ix2 q n) (ix2 q n) fun a => ?_)
  fin_cases a
  · exact (Nat.zero_add _).symm
  · exact (Nat.zero_add _).symm

theorem tN_apply (b : Fin 2) (h : Fin 8) (j : Fin 3) (q : Fin 512) (e : Fin 64) : tN A b h j (ix2 q e) = A.cn (ix4 j b q (Spec.col h e)) := by
  refine (recv_cast (cnM.view.readAt (Elt Ideal) (Rect.unit (s := S3x2x512x512) ![j.val, b.val, 0, 64 * h.val] S1x1x512x64.size (inR j b h)).toLoadRect A.cn)
    q e).trans (at_emb A.cn (inR j b h) (ix4 (0 : Fin 1) (0 : Fin 1) q e) (ix4 j b q (Spec.col h e)) fun a => ?_)
  fin_cases a
  · exact (Nat.add_zero _).symm
  · exact (Nat.add_zero _).symm
  · exact (Nat.zero_add _).symm
  · show h.val * 64 + e.val = 64 * h.val + e.val; omega

theorem tP_apply (b : Fin 2) (h : Fin 8) (q : Fin 512) (e : Fin 64) : tP A b h (ix2 q e)
    = A.par (ix3 b q (Spec.col h e)) + A.cn (ix4 0 b q (Spec.col h e)) + A.cn (ix4 1 b q (Spec.col h e)) + A.cn (ix4 2 b q (Spec.col h e)) := by
  rw [← tN_apply, ← tN_apply, ← tN_apply]
  exact congrArg (· + tN A b h 0 (ix2 q e) + tN A b h 1 (ix2 q e) + tN A b h 2 (ix2 q e)) ((own_cast _ q e).trans (head_at A.par b h q e))

theorem cB_apply (b : Fin 2) (h : Fin 8) (q : Fin 512) (e : Fin 64) :
    cB A b h (ix3 0 q e) = Ideal.div (tP A b h (ix2 q e)) (tD A (ix2 q (bh b h))) := by
  unfold cB bh
  pointwise

theorem outC_apply (b : Fin 2) (q : Fin 512) (n : Fin 768) :
    outC A (ix3 b q n) = ∑ m : Fin 512, cB A b (Spec.hd m) (ix3 0 q (Spec.en m)) * A.wo (ix2 m n) := by
  refine (last_apply (slabC (cB A) b) _ q n).trans (Finset.sum_congr rfl fun m _ => congrArg₂ (· * ·) rfl ?_)
  refine at_emb A.wo inb_S512x768_S512x768_0_0 (ix2 m n) (ix2 m n) fun a => ?_
  fin_cases a
  · exact (Nat.zero_add _).symm
  · exact (Nat.zero_add _).symm

end Cert.KernelIdeal.Run

end
-- ==== Proof.KerValue.lean ====
/-
# What the kernel computes

Every device's result, read at an index, is `Spec.kerOut` of the whole arrays, where device `d` holds the keys and values from position `512 d` on
and every device holds the same activations and weights.
-/
module

public import proofs.«01_k».proof.Proof.KerOut
public import proofs.«01_k».proof.Proof.Body

@[expose] public section

set_option maxRecDepth 16384

noncomputable section

namespace Cert.KernelIdeal.Run

open Cert.KernelIdeal Cert.KernelIdeal.Gen Idealize.ShloMosaic Idealize.ShloMosaic.TcCoe
open scoped BigOperators

/-- A device and the three before it are all four. -/
theorem sum_dev (f : Fin 4 → EReal) (c : Fin 4) : f c + f (pv 0 c) + f (pv 1 c) + f (pv 2 c) = ∑ d : Fin 4, f d := by
  rw [Fin.sum_univ_four]
  obtain rfl | rfl | rfl | rfl : c = 0 ∨ c = 1 ∨ c = 2 ∨ c = 3 := by revert c; decide
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- The row of a query within its two row blocks. -/
def inner (q : Fin 512) : Fin 128 := ⟨64 * (q.val / 256) + q.val % 64, by have := q.isLt; omega⟩

variable (J : Dev nD → Ins Ideal) (X : Fin 2 → Fin 512 → Fin 768 → EReal) (W : Fin 768 → Fin 512 → EReal) (K V : Fin 2 → Fin 2048 → Fin 512 → EReal)
  (U : Fin 512 → Fin 768 → EReal)

/-- The devices hold the whole arrays, each its part of the keys and of the values. -/
structure Holds : Prop where
  x : ∀ d, (fun b q t => (J d).x (ix3 b q t)) = X
  wq : ∀ d, (fun t m => (J d).wq (ix2 t m)) = W
  k : ∀ (d : Fin 4) b j m (g : Fin 2048), g.val = 512 * d.val + j.val → (J d).k (ix3 b j m) = K b g m
  v : ∀ (d : Fin 4) b j m (g : Fin 2048), g.val = 512 * d.val + j.val → (J d).v (ix3 b j m) = V b g m
  wo : ∀ d m n, (J d).wo (ix2 m n) = U m n

variable {J X W K V U} (H : Holds J X W K V U)
include H

theorem own_num (d : Fin 4) (b : Fin 2) (q m : Fin 512) : ofP (e := .f32) (nP (J d)) (ix3 b q m) = Spec.num X W K V b q m d := by
  rw [← H.x d, ← H.wq d, ← num_apply (J d) K V d (H.k d) (H.v d) b q m (inner q) rfl]
  exact nP_apply (J d) b (Spec.hd m) (Spec.res q) ⟨q.val / 256, by have := q.isLt; omega⟩ ⟨q.val % 64, Nat.mod_lt _ (by decide)⟩ (Spec.en m) (inner q) rfl

theorem sent_num (d : Fin 4) (b : Fin 2) (q m : Fin 512) : ofP (e := .bf16) (sP (J d)) (ix3 b q m) = Spec.num X W K V b q m d := by
  rw [← H.x d, ← H.wq d, ← num_apply (J d) K V d (H.k d) (H.v d) b q m (inner q) rfl]
  exact sP_apply (J d) b (Spec.hd m) (Spec.res q) ⟨q.val / 256, by have := q.isLt; omega⟩ ⟨q.val % 64, Nat.mod_lt _ (by decide)⟩ (Spec.en m) (inner q) rfl

theorem own_den (d : Fin 4) (b : Fin 2) (h : Fin 8) (q : Fin 512) : ofD (dP (J d)) (ix2 q (bh b h)) = Spec.den X W K b h q d := by
  rw [← H.x d, ← H.wq d, ← den_apply (J d) K d (H.k d) b h q (inner q) rfl,
    ← dP_apply (J d) b h (Spec.res q) ⟨q.val / 256, by have := q.isLt; omega⟩ ⟨q.val % 64, Nat.mod_lt _ (by decide)⟩ (inner q) rfl]
  refine ofD_at (dP (J d)) b h (Spec.res q) ⟨q.val / 256, by have := q.isLt; omega⟩ (ix2 (⟨q.val % 64, Nat.mod_lt _ (by decide)⟩ : Fin 64) (0 : Fin 1)) _ ?_ rfl
  show q.val = 64 * (q.val / 64 % 4 + 4 * (q.val / 256)) + q.val % 64
  have := q.isLt
  omega

/-- What the devices send. -/
theorem out_apply (c : Fin 4) (b : Fin 2) (q : Fin 512) (n : Fin 768) :
    outC (allOf ⟨fun c => ofP (sP (J c)), fun c => ofD (dP (J c))⟩ c (J c)) (ix3 b q n) = Spec.kerOut X W K V U b q n := by
  rw [outC_apply]
  unfold Spec.kerOut
  refine Finset.sum_congr rfl fun m _ => congrArg₂ (· * ·) ?_ (H.wo c m n)
  rw [cB_apply, tP_apply, tD_apply, Spec.col_hd_en, ← sum_dev _ c, ← sum_dev _ c]
  simp only [← own_num H c, ← sent_num H (pv _ c), ← own_den H]
  rfl

end Cert.KernelIdeal.Run

end
-- ==== Proof.Mask.lean ====
/-
# The mask of the reference

The reference computes its mask from two counts, of the query rows and of the keys: each divided by the block length 64, rounding down, and
compared, as they are or modulo 4. Here the mask is read at an index: query row `q` attends to key `j` just if their blocks agree modulo 4.
-/
module

public import proofs.«01_k».proof.Proof.Gen.ReferenceIdeal
public import Idealize.ShloMosaic.Lib.IdealHost
public import Idealize.ShloMosaic.Lib.Pointwise

@[expose] public section

noncomputable section

namespace Cert.ReferenceIdeal.Value

open Cert.ReferenceIdeal Cert.ReferenceIdeal.Gen Idealize.ShloMosaic

/-- The quotient by 64, rounded down, of an array of words. -/
def fdV (s : Shape) (h : S_.BroadcastsInDim s ![]) (x : IVec s 32) : IVec s 32 :=
  select (andi (cmpi .ne (signi x) (broadcastInDim s ![] h (signi (id (constantI S_ 32 64#32)))))
      (cmpi .ne (Host.remsi x (broadcastInDim s ![] h (id (constantI S_ 32 64#32)))) (broadcastInDim s ![] h (constantI S_ 32 0#32))))
    (subi (Host.divsi x (broadcastInDim s ![] h (id (constantI S_ 32 64#32)))) (broadcastInDim s ![] h (constantI S_ 32 1#32)))
    (Host.divsi x (broadcastInDim s ![] h (id (constantI S_ 32 64#32))))

/-- The divisor of the remainder: 4, which is not zero. -/
def fourV : IVec S_ 32 := select (cmpi .eq (id (constantI S_ 32 4#32)) (constantI S_ 32 0#32)) (constantI S_ 32 1#32) (id (constantI S_ 32 4#32))

/-- The remainder modulo 4, of the sign of the divisor, of an array of words. -/
def rmV (s : Shape) (h : S_.BroadcastsInDim s ![]) (x : IVec s 32) : IVec s 32 :=
  select (andi (cmpi .ne (cmpi .slt (Host.remsi x (broadcastInDim s ![] h fourV)) (broadcastInDim s ![] h (constantI S_ 32 0#32)))
        (broadcastInDim s ![] h (cmpi .slt fourV (constantI S_ 32 0#32))))
      (cmpi .ne (Host.remsi x (broadcastInDim s ![] h fourV)) (broadcastInDim s ![] h (constantI S_ 32 0#32))))
    (addi (Host.remsi x (broadcastInDim s ![] h fourV)) (broadcastInDim s ![] h fourV))
    (Host.remsi x (broadcastInDim s ![] h fourV))

/-- One word's quotient and remainder. -/
def fdW (x : BitVec 32) : BitVec 32 := fdV S_ ⟨by decide, fun a => a.elim0⟩ (fun _ => x) ix0
def rmW (x : BitVec 32) : BitVec 32 := rmV S_ ⟨by decide, fun a => a.elim0⟩ (fun _ => x) ix0

theorem fdV_apply (s : Shape) (h : S_.BroadcastsInDim s ![]) (x : IVec s 32) (i : s.Idx) : fdV s h x i = fdW (x i) := rfl
theorem rmV_apply (s : Shape) (h : S_.BroadcastsInDim s ![]) (x : IVec s 32) (i : s.Idx) : rmV s h x i = rmW (x i) := rfl

theorem fdW_eq : ∀ n : Fin 2048, fdW (BitVec.ofNat 32 n.val) = BitVec.ofNat 32 (n.val / 64) := by decide +kernel
theorem rmW_eq : ∀ n : Fin 32, rmW (BitVec.ofNat 32 n.val) = BitVec.ofNat 32 (n.val % 4) := by decide +kernel

/-- The mask: the blocks are equal, or equal modulo 4. -/
def maskV : IVec S512x2048 1 :=
  ori (cmpi .eq (broadcastInDim S512x2048 ![0, 1] bcast_S512x1_S512x2048_0_1 (broadcastInDim S512x1 ![0] bcast_S512_S512x1_0 (fdV S512 bcast_S_S512 (iotaInDim S512 32 0))))
      (broadcastInDim S512x2048 ![0, 1] bcast_S1x2048_S512x2048_0_1 (broadcastInDim S1x2048 ![1] bcast_S2048_S1x2048_1 (fdV S2048 bcast_S_S2048 (iotaInDim S2048 32 0)))))
    (cmpi .eq (broadcastInDim S512x2048 ![0, 1] bcast_S1x2048_S512x2048_0_1
        (rmV S1x2048 bcast_S_S1x2048 (broadcastInDim S1x2048 ![1] bcast_S2048_S1x2048_1 (fdV S2048 bcast_S_S2048 (iotaInDim S2048 32 0)))))
      (broadcastInDim S512x2048 ![0, 1] bcast_S512x1_S512x2048_0_1
        (rmV S512x1 bcast_S_S512x1 (broadcastInDim S512x1 ![0] bcast_S512_S512x1_0 (fdV S512 bcast_S_S512 (iotaInDim S512 32 0))))))

/-- The mask at an index, of words. -/
theorem maskV_words (q : Fin 512) (j : Fin 2048) :
    maskV (ix2 q j) = IntOp.ori (IntOp.cmpi .eq (fdW (BitVec.ofNat 32 q.val)) (fdW (BitVec.ofNat 32 j.val)))
      (IntOp.cmpi .eq (rmW (fdW (BitVec.ofNat 32 j.val))) (rmW (fdW (BitVec.ofNat 32 q.val)))) := rfl

theorem words_eq : ∀ (a : Fin 8) (b : Fin 32), IntOp.ori (IntOp.cmpi .eq (BitVec.ofNat 32 a.val) (BitVec.ofNat 32 b.val))
    (IntOp.cmpi .eq (BitVec.ofNat 32 (b.val % 4)) (BitVec.ofNat 32 (a.val % 4))) = if b.val % 4 = a.val % 4 then 1#1 else 0#1 := by decide +kernel

/-- The mask at an index. -/
theorem maskV_apply (q : Fin 512) (j : Fin 2048) : maskV (ix2 q j) = if j.val / 64 % 4 = q.val / 64 % 4 then 1#1 else 0#1 := by
  have hq := q.isLt
  have hj := j.isLt
  have e1 := fdW_eq ⟨q.val, by omega⟩
  have e2 := fdW_eq j
  have e3 := rmW_eq ⟨q.val / 64, by omega⟩
  have e4 := rmW_eq ⟨j.val / 64, by omega⟩
  dsimp only at e1 e2 e3 e4
  rw [maskV_words, e1, e2, e3, e4]
  exact words_eq ⟨q.val / 64, by omega⟩ ⟨j.val / 64, by omega⟩

/-- Some key is attended to in every row, -/
def keepV : IVec S512 1 := Host.reduce IntOp.ori maskV (constantI S_ 1 0#1) reducesTo_S512x2048_S512_d1 h_S_

theorem fold_ori_one {ι : Type} [DecidableEq ι] (T : Finset ι) (f : ι → BitVec 1) (b : BitVec 1) (j : ι) (hj : j ∈ T) (h : f j = 1#1) :
    T.fold IntOp.ori b f = 1#1 := by
  induction T using Finset.induction_on with
  | empty => simp at hj
  | insert a T ha ih =>
    rw [Finset.fold_insert ha]
    have o1 : ∀ x : BitVec 1, IntOp.ori 1#1 x = 1#1 := by decide
    have o2 : ∀ x : BitVec 1, IntOp.ori x 1#1 = 1#1 := by decide
    rcases Finset.mem_insert.mp hj with rfl | hj
    · rw [h, o1]
    · rw [ih hj, o2]

/-- so that the word of the row is one. -/
theorem keepV_apply (q : Fin 512) : keepV (ix1 q) = 1#1 := by
  have hq := q.isLt
  unfold keepV
  pointwise
  refine fold_ori_one _ _ _ (⟨q.val, by omega⟩ : Fin 2048) (Finset.mem_univ _) ?_
  exact (maskV_apply q _).trans (if_pos rfl)

end Cert.ReferenceIdeal.Value

end
-- ==== Proof.RefValue.lean ====
/-
# What the reference computes

The reference's result, read at an index: the sums of `Spec.refOut` over its argument arrays.
-/
module

public import proofs.«01_k».proof.Proof.Gen.ReferenceIdeal.Run
public import proofs.«01_k».proof.Proof.Mask
public import proofs.«01_k».proof.Proof.Spec

@[expose] public section

noncomputable section

namespace Cert.ReferenceIdeal.Value

open Cert.ReferenceIdeal Cert.ReferenceIdeal.Gen Idealize.ShloMosaic Idealize.ShloMosaic.TcCoe
open scoped BigOperators

/-! ## The stages, over any floats -/

section Stages

variable {F : FTy → Type} [FloatOps F]
variable (x : S2x512x768.Idx → F .f32) (wq : S768x512.Idx → F .f32) (k v : S2x2048x512.Idx → F .f32) (wo : S512x768.Idx → F .f32)

/-- The scores, -/
def scoreV : FVec F S2x8x512x2048 .f32 :=
  mulf (Host.dotGeneral dot_S2x512x8x64_S2x2048x8x64_S2x8x512x2048_3_3_1_1_02_02 none
      (shapeCast S2x512x8x64 (Host.dotGeneral dot_S2x512x768_S768x512_S2x512x512_2_0_01_1_n_n none x wq) shapeCasts_S2x512x512_S2x512x8x64)
      (shapeCast S2x2048x8x64 k shapeCasts_S2x2048x512_S2x2048x8x64))
    (broadcastInDim S2x8x512x2048 ![] bcast_S_S2x8x512x2048 (constant S_ .f32 0x3E000000#32))

variable (z : FVec F S2x8x512x2048 .f32)

/-- of the kept positions, -/
def maskedV : FVec F S2x8x512x2048 .f32 :=
  select (broadcastInDim S2x8x512x2048 ![0, 1, 2, 3] bcast_S1x1x512x2048_S2x8x512x2048_0_1_2_3
      (broadcastInDim S1x1x512x2048 ![2, 3] bcast_S512x2048_S1x1x512x2048_2_3 maskV)) z
    (broadcastInDim S2x8x512x2048 ![] bcast_S_S2x8x512x2048 (id (constant S_ .f32 0xFF800000#32)))

/-- the exponentials over the maximum, -/
def expV : FVec F S2x8x512x2048 .f32 :=
  Host.exp (subf z (broadcastInDim S2x8x512x2048 ![0, 1, 2, 3] bcast_S2x8x512x1_S2x8x512x2048_0_1_2_3
    (broadcastInDim S2x8x512x1 ![0, 1, 2] bcast_S2x8x512_S2x8x512x1_0_1_2
      (Host.reduce FloatOps.maximumf z (constant S_ .f32 0xFF800000#32) reducesTo_S2x8x512x2048_S2x8x512_d3 h_S_))))

/-- their sums, -/
def sumV : FVec F S2x8x512x1 .f32 :=
  select (broadcastInDim S2x8x512x1 ![0, 1, 2, 3] bcast_S1x1x512x1_S2x8x512x1_0_1_2_3 (broadcastInDim S1x1x512x1 ![2] bcast_S512_S1x1x512x1_2 keepV))
    (broadcastInDim S2x8x512x1 ![0, 1, 2] bcast_S2x8x512_S2x8x512x1_0_1_2
      (Host.reduceAdd z (constant S_ .f32 0x00000000#32) reducesTo_S2x8x512x2048_S2x8x512_d3 h_S_))
    (broadcastInDim S2x8x512x1 ![] bcast_S_S2x8x512x1 (id (constant S_ .f32 0x3F800000#32)))

/-- the weights, -/
def weightV : FVec F S2x8x512x2048 .f32 :=
  select (broadcastInDim S2x8x512x2048 ![0, 1, 2, 3] bcast_S1x1x512x1_S2x8x512x2048_0_1_2_3 (broadcastInDim S1x1x512x1 ![2] bcast_S512_S1x1x512x1_2 keepV))
    (Host.divf z (broadcastInDim S2x8x512x2048 ![0, 1, 2, 3] bcast_S2x8x512x1_S2x8x512x2048_0_1_2_3 (sumV z)))
    (broadcastInDim S2x8x512x2048 ![] bcast_S_S2x8x512x2048 (id (constant S_ .f32 0x00000000#32)))

/-- the context, and the result. -/
def ctxV : FVec F S2x512x512 .f32 :=
  shapeCast S2x512x512 (transpose S2x512x8x64 [0, 3, 1, 2]
    (Host.dotGeneral dot_S2x2048x8x64_S2x8x512x2048_S2x8x64x512_1_3_3_2_02_01 none (shapeCast S2x2048x8x64 v shapeCasts_S2x2048x512_S2x2048x8x64) z)
    transposes_S2x8x64x512_S2x512x8x64_0_3_1_2) shapeCasts_S2x512x8x64_S2x512x512

def outV (y : FVec F S2x512x512 .f32) : FVec F S2x512x768 .f32 :=
  Host.dotGeneral dot_S2x512x512_S512x768_S2x512x768_2_0_01_1_n_n none y wo

set_option maxRecDepth 8192 in
/-- The generated result is the stages put together. -/
theorem res_eq (m : (ℓ : Loc nD τ sig) → Buf (Elt F) ℓ) (c : Dev nD) :
    res_out0 m c = outV (m ((c.tc : Thread nD τ).loc main_arg4)) (ctxV (m ((c.tc : Thread nD τ).loc main_arg3)) (weightV (expV (maskedV
      (scoreV (m ((c.tc : Thread nD τ).loc main_arg0)) (m ((c.tc : Thread nD τ).loc main_arg1)) (m ((c.tc : Thread nD τ).loc main_arg2))))))) := rfl

end Stages

/-! ## The stages at an index -/

/-- The words the program prints: an eighth, a real, and minus infinity. -/
theorem eighth_real : Spec.IsReal (Ideal.ofBits .f32 0x3E000000#32) := by
  refine ⟨1 / 8, ?_⟩
  simp [Ideal.ofBits, Ideal.ieee, -EReal.coe_mul]
  norm_num

theorem ofBits_bot : Ideal.ofBits .f32 0xFF800000#32 = ⊥ := by
  simp [Ideal.ofBits, Ideal.ieee]

variable (x : S2x512x768.Idx → EReal) (wq : S768x512.Idx → EReal) (k v : S2x2048x512.Idx → EReal) (wo : S512x768.Idx → EReal)

theorem scoreV_apply (b : Fin 2) (h : Fin 8) (q : Fin 512) (j : Fin 2048) :
    scoreV (F := Ideal) x wq k (ix4 b h q j)
      = Spec.score (fun b q t => x (ix3 b q t)) (fun t m => wq (ix2 t m)) (fun b j m => k (ix3 b j m)) b h q j := by
  unfold scoreV Spec.score Spec.qry Spec.col
  pointwise

variable (z : S2x8x512x2048.Idx → EReal)

theorem maskedV_apply (b : Fin 2) (h : Fin 8) (q : Fin 512) (j : Fin 2048) :
    maskedV (F := Ideal) z (ix4 b h q j) = if j.val / 64 % 4 = q.val / 64 % 4 then z (ix4 b h q j) else ⊥ := by
  unfold maskedV
  pointwise
  rw [maskV_apply]
  split
  · exact rfl
  · exact ofBits_bot

theorem expV_apply (b : Fin 2) (h : Fin 8) (q : Fin 512) (j : Fin 2048) :
    expV (F := Ideal) z (ix4 b h q j) = Ideal.exp (z (ix4 b h q j) - Finset.univ.fold max ⊥ (fun j => z (ix4 b h q j))) := by
  unfold expV
  pointwise
  rw [ofBits_bot]

theorem sumV_apply (b : Fin 2) (h : Fin 8) (q : Fin 512) : sumV (F := Ideal) z (ix4 b h q 0) = ∑ j : Fin 2048, z (ix4 b h q j) := by
  unfold sumV
  pointwise
  rw [keepV_apply]
  exact rfl

theorem weightV_apply (b : Fin 2) (h : Fin 8) (q : Fin 512) (j : Fin 2048) :
    weightV (F := Ideal) z (ix4 b h q j) = Ideal.div (z (ix4 b h q j)) (∑ j : Fin 2048, z (ix4 b h q j)) := by
  unfold weightV
  pointwise
  rw [keepV_apply, sumV_apply]
  exact rfl

theorem ctxV_apply (b : Fin 2) (q m : Fin 512) : ctxV (F := Ideal) v z (ix3 b q m) = ∑ j : Fin 2048, v (ix3 b j m) * z (ix4 b (Spec.hd m) q j) := by
  unfold ctxV
  pointwise
  rfl

theorem outV_apply (y : S2x512x512.Idx → EReal) (b : Fin 2) (q : Fin 512) (n : Fin 768) :
    outV (F := Ideal) wo y (ix3 b q n) = ∑ m : Fin 512, y (ix3 b q m) * wo (ix2 m n) := by
  unfold outV
  pointwise

/-- The stages together. -/
theorem value_apply (b : Fin 2) (q : Fin 512) (n : Fin 768) :
    outV (F := Ideal) wo (ctxV v (weightV (expV (maskedV (scoreV x wq k))))) (ix3 b q n)
      = Spec.refOut (fun b q t => x (ix3 b q t)) (fun t m => wq (ix2 t m)) (fun b j m => k (ix3 b j m)) (fun b j m => v (ix3 b j m)) (fun m n => wo (ix2 m n)) b q n := by
  rw [outV_apply]
  simp only [ctxV_apply, weightV_apply, expV_apply, maskedV_apply, scoreV_apply]
  rfl

end Cert.ReferenceIdeal.Value

end
-- ==== Proof.Agree.lean ====
/-
# The kernel and the reference agree

From memories in which every device holds its part of the reference's arrays, and of finite activations, query weights and keys, every device's
result is the reference's.
-/
module

public import proofs.«01_k».proof.Defs
public import proofs.«01_k».proof.Proof.KerValue
public import proofs.«01_k».proof.Proof.RefValue
public import proofs.«01_k».proof.Proof.Final

@[expose] public section

set_option maxRecDepth 16384

noncomputable section

namespace Cert.Agree

open Idealize.ShloMosaic Idealize.ShloMosaic.TcCoe

/-- A value below infinity in size is real. -/
theorem real_of_lt {a : EReal} (h : Ideal.cmp .olt (max a (-a)) (Ideal.ofBits .f32 0x7F800000#32) = 1#1) : Spec.IsReal a := by
  have ht : Ideal.ofBits .f32 0x7F800000#32 = ⊤ := by simp [Ideal.ofBits, Ideal.ieee]
  rw [ht] at h
  induction a using EReal.rec with
  | bot => exact absurd h (by simp [Ideal.cmp])
  | top => exact absurd h (by simp [Ideal.cmp])
  | coe r => exact ⟨r, rfl⟩

/-- The side conditions of the precondition. -/
theorem facts_KI : Cert.Pre_finite_KernelIdeal.Facts := ⟨by decide, by decide, by decide⟩
theorem facts_RI : Cert.Pre_finite_ReferenceIdeal.Facts := ⟨by decide, by decide, by decide⟩

section Arrays

variable (x : (⟨3, ![2, 512, 768]⟩ : Shape).Idx → EReal) (wq : (⟨2, ![768, 512]⟩ : Shape).Idx → EReal) (k v : (⟨3, ![2, 2048, 512]⟩ : Shape).Idx → EReal)
  (wo : (⟨2, ![512, 768]⟩ : Shape).Idx → EReal)

/-- A block of the keys or the values at an index. -/
theorem block_at (d : Fin 4) (b : Fin 2) (j m : Fin 512) (g : Fin 2048) (hg : g.val = 512 * d.val + j.val) :
    Layout.block ⟨3, ![2, 512, 512]⟩ ⟨3, ![2, 2048, 512]⟩ 1 4 d k (by decide) (ix3 b j m) = k (ix3 b g m) := by
  refine congrArg k (funext fun a => Fin.ext ?_)
  match a with
  | ⟨0, _⟩ => rfl
  | ⟨1, _⟩ => show d.val * 512 + j.val = g.val; omega
  | ⟨2, _⟩ => rfl

/-- The results at an index, of five arrays and their parts. -/
theorem at_index (J : Dev Cert.KernelIdeal.nD → Cert.KernelIdeal.Run.Ins Ideal)
    (hJ : ∀ d, J d = ⟨x, wq, Layout.block ⟨3, ![2, 512, 512]⟩ ⟨3, ![2, 2048, 512]⟩ 1 4 d k (by decide), Layout.block ⟨3, ![2, 512, 512]⟩ ⟨3, ![2, 2048, 512]⟩ 1 4 d v (by decide), wo⟩)
    (hx : ∀ i, Spec.IsReal (x i)) (hw : ∀ i, Spec.IsReal (wq i)) (hk : ∀ d i, Spec.IsReal ((J d).k i)) (c : Dev Cert.KernelIdeal.nD) (b : Fin 2) (q : Fin 512) (n : Fin 768) :
    KernelIdeal.Run.outC (KernelIdeal.Run.allOf ⟨fun c => KernelIdeal.Run.ofP (KernelIdeal.Run.sP (J c)), fun c => KernelIdeal.Run.ofD (KernelIdeal.Run.dP (J c))⟩ c (J c)) (ix3 b q n)
      = ReferenceIdeal.Value.outV (F := Ideal) wo (ReferenceIdeal.Value.ctxV v (ReferenceIdeal.Value.weightV (ReferenceIdeal.Value.expV (ReferenceIdeal.Value.maskedV
          (ReferenceIdeal.Value.scoreV x wq k))))) (ix3 b q n) := by
  have H : KernelIdeal.Run.Holds J (fun b q t => x (ix3 b q t)) (fun t m => wq (ix2 t m)) (fun b j m => k (ix3 b j m)) (fun b j m => v (ix3 b j m)) (fun m n => wo (ix2 m n)) :=
    { x := fun d => by rw [hJ d]
      wq := fun d => by rw [hJ d]
      k := fun d b j m g hg => by rw [hJ d]; exact block_at k d b j m g hg
      v := fun d b j m g hg => by rw [hJ d]; exact block_at v d b j m g hg
      wo := fun d m n => by rw [hJ d] }
  have hK : ∀ b j m, Spec.IsReal (k (ix3 b j m)) := fun b j m => by
    have hj := j.isLt
    have e := H.k ⟨j.val / 512, by omega⟩ b ⟨j.val % 512, by omega⟩ m j (by show j.val = 512 * (j.val / 512) + j.val % 512; omega)
    exact e ▸ hk _ _
  rw [ReferenceIdeal.Value.value_apply, KernelIdeal.Run.out_apply H c b q n]
  exact Spec.out_eq _ _ _ _ _ (fun _ _ _ => hx _) (fun _ _ => hw _) hK ReferenceIdeal.Value.eighth_real b q n

end Arrays

/-- The claim. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := facts_KI) := fun m g m' g' hp hin => by
  have e : ∀ c, KernelIdeal.Run.outAt m c = ReferenceIdeal.Value.res_out0 m' 0 := fun c => by
    rw [ReferenceIdeal.Value.res_eq]
    funext i
    rw [eq_ix3 i]
    refine at_index _ _ _ _ _ (KernelIdeal.Run.Iof m) (fun d => ?_) (fun i => ?_) (fun i => ?_) (fun d i => ?_) c _ _ _
    · rw [KernelIdeal.Run.Iof_eq, (hin d).1, (hin d).2.1, (hin d).2.2.1, (hin d).2.2.2.1, (hin d).2.2.2.2]
    · rw [← (hin 0).1]
      exact real_of_lt (congrFun (hp 0).1 i)
    · rw [← (hin 0).2.1]
      exact real_of_lt (congrFun (hp 0).2.1 i)
    · rw [KernelIdeal.Run.Iof_eq]
      exact real_of_lt (congrFun (hp d).2.2 i)
  refine ⟨ReferenceIdeal.Value.res_out0 m' 0, ?_, ?_⟩
  · exact (θ_run Cert.KernelIdeal.defs _ _).mono (fun _ h c => ⟨((h.1 c).1).trans (e c), (h.1 c).2⟩) (Cert.KernelIdeal.Run.run_arrays (F := Ideal) m g)
  · exact (θ_run Cert.ReferenceIdeal.defs _ _).mono (fun _ h => h 0) (Cert.ReferenceIdeal.Value.run (F := Ideal) m' g')

end Cert.Agree

end
-- ==== Proof.lean ====
/-
# The claims about the kernel

The frames of the kernel, of its idealization and of the reference, each from the run of its program; that the idealization is the kernel's own
text; and that the idealization computes the reference's result where the activations, the query weights and the keys are finite.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.SameText
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

/-- The frame of the kernel: the run of the same text, at the machine's floats, read at the argument arrays. -/
theorem frame_P : Cert.quiescent_Kernel := fun m g _ => by
  rw [Cert.SameText.defs_eq, Cert.SameText.main_eq]
  exact (θ_run (Cert.KernelIdeal.defs (F := Bits)) _ _).mono (fun _ h => And.intro (fun c => (h.1 c).2) h.2) (Cert.KernelIdeal.Run.run_arrays (F := Bits) m g)

/-- The frame of its idealization. -/
theorem frame_PI : Cert.quiescent_KernelIdeal := fun m g _ =>
  (θ_run Cert.KernelIdeal.defs _ _).mono (fun _ h => ⟨fun c => (h.1 c).2, h.2⟩) (Cert.KernelIdeal.Run.run_arrays (F := Ideal) m g)

/-- The frame of the reference, a host program without semaphores. -/
theorem frame_RI : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same frames where the inputs are finite. -/
theorem frame_PI_finite : Cert.quiescent_KernelIdeal_pre_finite_KernelIdeal (hKernelIdeal := Cert.KernelIdeal.Gen.facts) (hPre_finite_KernelIdeal := Cert.Agree.facts_KI) :=
  fun m g _ => frame_PI m g trivial

theorem frame_RI_finite : Cert.quiescent_ReferenceIdeal_pre_finite_ReferenceIdeal (hReferenceIdeal := Cert.ReferenceIdeal.Gen.facts) (hPre_finite_ReferenceIdeal := Cert.Agree.facts_RI) :=
  fun m g _ => frame_RI m g trivial

theorem claim : Cert.Claim :=
  ⟨Cert.Kernel.Gen.facts, Cert.KernelIdeal.Gen.facts, Cert.ReferenceIdeal.Gen.facts, Cert.Agree.facts_KI, Cert.Agree.facts_RI,
    frame_P, frame_PI, frame_PI_finite, frame_RI, frame_RI_finite, trivial, Cert.Agree.algebraic⟩

end Cert.Proof

end
